-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨4, ![2, 256, 256, 128]⟩ ⟨4, ![2, 1024, 256, 128]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨4, ![2, 256, 256, 256]⟩ ⟨4, ![2, 1024, 256, 256]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x256x128 : Shape := ⟨4, ![2, 256, 256, 128]⟩
abbrev S128x256 : Shape := ⟨2, ![128, 256]⟩
abbrev S_ : Shape := ⟨0, ![]⟩

class Facts : Prop where
  bcast_S_S2x256x256x128 : S_.BroadcastsInDim S2x256x256x128 (![] : Fin 0 → Fin S2x256x256x128.rank)
  reducesTo_S2x256x256x128_S_d0_1_2_3 : S2x256x256x128.ReducesTo [0, 1, 2, 3] S_
  h_S_ : 0 < S_.numel

variable [Facts]

def fn {F : FTy → Type} [FloatOps F] (main_arg0 : FVec F S2x256x256x128 .f32) (main_arg1 : FVec F S128x256 .f32) : IVec S_ 1 :=
  let main_v0 : FVec F S2x256x256x128 .f32 := Host.absf main_arg0
  let main_cst : FVec F S_ .f32 := constant S_ .f32 0x7F800000#32
  let main_v1 : FVec F S2x256x256x128 .f32 := broadcastInDim S2x256x256x128 ![] bcast_S_S2x256x256x128 main_cst
  let main_v2 : IVec S2x256x256x128 1 := cmpf .olt main_v0 main_v1
  let main_c : IVec S_ 1 := constantI S_ 1 1#1
  let main_v3 : IVec S_ 1 := (fun x v => Host.reduce IntOp.andi x v reducesTo_S2x256x256x128_S_d0_1_2_3 h_S_) main_v2 main_c
  main_v3
-- ==== Pre_finite_ReferenceIdeal.lean ====
abbrev S2x1024x256x128 : Shape := ⟨4, ![2, 1024, 256, 128]⟩
abbrev S128x256 : Shape := ⟨2, ![128, 256]⟩
abbrev S_ : Shape := ⟨0, ![]⟩

class Facts : Prop where
  bcast_S_S2x1024x256x128 : S_.BroadcastsInDim S2x1024x256x128 (![] : Fin 0 → Fin S2x1024x256x128.rank)
  reducesTo_S2x1024x256x128_S_d0_1_2_3 : S2x1024x256x128.ReducesTo [0, 1, 2, 3] S_
  h_S_ : 0 < S_.numel

variable [Facts]

def fn {F : FTy → Type} [FloatOps F] (main_arg0 : FVec F S2x1024x256x128 .f32) (main_arg1 : FVec F S128x256 .f32) : IVec S_ 1 :=
  let main_v0 : FVec F S2x1024x256x128 .f32 := Host.absf main_arg0
  let main_cst : FVec F S_ .f32 := constant S_ .f32 0x7F800000#32
  let main_v1 : FVec F S2x1024x256x128 .f32 := broadcastInDim S2x1024x256x128 ![] bcast_S_S2x1024x256x128 main_cst
  let main_v2 : IVec S2x1024x256x128 1 := cmpf .olt main_v0 main_v1
  let main_c : IVec S_ 1 := constantI S_ 1 1#1
  let main_v3 : IVec S_ 1 := (fun x v => Host.reduce IntOp.andi x v reducesTo_S2x1024x256x128_S_d0_1_2_3 h_S_) main_v2 main_c
  main_v3
-- ==== Kernel.lean ====
abbrev S2x256x256x128 : Shape := ⟨4, ![2, 256, 256, 128]⟩
abbrev S128x256 : Shape := ⟨2, ![128, 256]⟩
abbrev S8x128 : Shape := ⟨2, ![8, 128]⟩
abbrev S1x64x256x128 : Shape := ⟨4, ![1, 64, 256, 128]⟩
abbrev S4x8x128 : Shape := ⟨3, ![4, 8, 128]⟩
abbrev S4 : Shape := ⟨1, ![4]⟩
abbrev S_ : Shape := ⟨0, ![]⟩
abbrev S64x256x128 : Shape := ⟨3, ![64, 256, 128]⟩
abbrev S256x128 : Shape := ⟨2, ![256, 128]⟩
abbrev S128 : Shape := ⟨1, ![128]⟩
abbrev S1x128 : Shape := ⟨2, ![1, 128]⟩
abbrev S1x8x128 : Shape := ⟨3, ![1, 8, 128]⟩
abbrev S1 : Shape := ⟨1, ![1]⟩
abbrev S2x128 : Shape := ⟨2, ![2, 128]⟩
abbrev S4x128 : Shape := ⟨2, ![4, 128]⟩
abbrev S2x256x256x256 : Shape := ⟨4, ![2, 256, 256, 256]⟩
abbrev S1x32x256x128 : Shape := ⟨4, ![1, 32, 256, 128]⟩
abbrev S1x32x256x256 : Shape := ⟨4, ![1, 32, 256, 256]⟩
abbrev S32x256x128 : Shape := ⟨3, ![32, 256, 128]⟩
abbrev S1x1x128 : Shape := ⟨3, ![1, 1, 128]⟩
abbrev S8192x128 : Shape := ⟨2, ![8192, 128]⟩
abbrev S8192x256 : Shape := ⟨2, ![8192, 256]⟩
abbrev S32x256x256 : Shape := ⟨3, ![32, 256, 256]⟩

abbrev nBuf : Space → Nat
  | .hbm => 4
  | .vmem => 11
  | .smem => 0
  | _ => 0

abbrev bufTy : (tb : Table) → Fin (tcTables nBuf tb) → BufTy
  | .hbm, ⟨0, _⟩ => ⟨S2x256x256x128, .f32⟩
  | .hbm, ⟨1, _⟩ => ⟨S128x256, .f32⟩
  | .hbm, ⟨2, _⟩ => ⟨S8x128, .f32⟩
  | .hbm, ⟨3, _⟩ => ⟨S2x256x256x256, .bf16⟩
  | .local _ .vmem, ⟨0, _⟩ => ⟨S1x64x256x128, .f32⟩
  | .local _ .vmem, ⟨1, _⟩ => ⟨S1x64x256x128, .f32⟩
  | .local _ .vmem, ⟨2, _⟩ => ⟨S8x128, .f32⟩
  | .local _ .vmem, ⟨3, _⟩ => ⟨S8x128, .f32⟩
  | .local _ .vmem, ⟨4, _⟩ => ⟨S4x8x128, .f32⟩
  | .local _ .vmem, ⟨5, _⟩ => ⟨S1x32x256x128, .f32⟩
  | .local _ .vmem, ⟨6, _⟩ => ⟨S1x32x256x128, .f32⟩
  | .local _ .vmem, ⟨7, _⟩ => ⟨S8x128, .f32⟩
  | .local _ .vmem, ⟨8, _⟩ => ⟨S128x256, .f32⟩
  | .local _ .vmem, ⟨9, _⟩ => ⟨S1x32x256x256, .bf16⟩
  | .local _ .vmem, ⟨10, _⟩ => ⟨S1x32x256x256, .bf16⟩
  | _, _ => ⟨S2x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev barrier0 : Sem sig := 0

abbrev nD : Nat := 4
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v10 : BitVec 1 := Scalar.cmpi .eq v1 c0_i32
  let v11 : BitVec 32 := Scalar.extui v10
  let c0_i32_6 : BitVec 32 := 0#32
  let v12 : BitVec 1 := Scalar.cmpi .ne v11 c0_i32_6
  v12

def k0_dev1 (d2 : Dev nD) : Nat :=
  let c0_i32_23 : BitVec 32 := 0#32
  let v2 : BitVec 32 := Dev.word d2
  let c1_i32 : BitVec 32 := 1#32
  let v3 : BitVec 32 := Scalar.divsi v2 c1_i32
  let c4_i32_0 : BitVec 32 := 4#32
  let v4 : BitVec 32 := Scalar.remsi v3 c4_i32_0
  let c1_i32_1 : BitVec 32 := 1#32
  let v5 : BitVec 32 := Scalar.subi v4 c1_i32_1
  let c4_i32_2 : BitVec 32 := 4#32
  let v6 : BitVec 32 := Scalar.addi v5 c4_i32_2
  let c4_i32_3 : BitVec 32 := 4#32
  let v7 : BitVec 32 := Scalar.remsi v6 c4_i32_3
  let c1_i32_22 : BitVec 32 := 1#32
  let v34 : BitVec 32 := Scalar.muli v7 c1_i32_22
  let v35 : BitVec 32 := Scalar.addi c0_i32_23 v34
  v35.toNat
def k0_dev2 (d2 : Dev nD) : Nat :=
  let c0_i32_26 : BitVec 32 := 0#32
  let v2 : BitVec 32 := Dev.word d2
  let c1_i32 : BitVec 32 := 1#32
  let v3 : BitVec 32 := Scalar.divsi v2 c1_i32
  let c4_i32_0 : BitVec 32 := 4#32
  let v4 : BitVec 32 := Scalar.remsi v3 c4_i32_0
  let c1_i32_4 : BitVec 32 := 1#32
  let v8 : BitVec 32 := Scalar.addi v4 c1_i32_4
  let c4_i32_5 : BitVec 32 := 4#32
  let v9 : BitVec 32 := Scalar.remsi v8 c4_i32_5
  let c1_i32_25 : BitVec 32 := 1#32
  let v36 : BitVec 32 := Scalar.muli v9 c1_i32_25
  let v37 : BitVec 32 := Scalar.addi c0_i32_26 v36
  v37.toNat
def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c7_i32 : BitVec 32 := 7#32
  let v26 : BitVec 1 := Scalar.cmpi .eq v1 c7_i32
  let v27 : BitVec 32 := Scalar.extui v26
  let c0_i32_17 : BitVec 32 := 0#32
  let v28 : BitVec 1 := Scalar.cmpi .ne v27 c0_i32_17
  v28

def k0_dev3 (d2 : Dev nD) : Nat :=
  let c0_i32_28 : BitVec 32 := 0#32
  let v2 : BitVec 32 := Dev.word d2
  let c1_i32 : BitVec 32 := 1#32
  let v3 : BitVec 32 := Scalar.divsi v2 c1_i32
  let c4_i32_0 : BitVec 32 := 4#32
  let v4 : BitVec 32 := Scalar.remsi v3 c4_i32_0
  let c1_i32_4 : BitVec 32 := 1#32
  let v8 : BitVec 32 := Scalar.addi v4 c1_i32_4
  let c4_i32_5 : BitVec 32 := 4#32
  let v9 : BitVec 32 := Scalar.remsi v8 c4_i32_5
  let c1_i32_27 : BitVec 32 := 1#32
  let v33 : BitVec 32 := Scalar.muli v9 c1_i32_27
  let v34 : BitVec 32 := Scalar.addi c0_i32_28 v33
  v34.toNat
def k0_dev4 (d2 : Dev nD) : Nat :=
  let c0_i32_62 : BitVec 32 := 0#32
  let v2 : BitVec 32 := Dev.word d2
  let c1_i32 : BitVec 32 := 1#32
  let v3 : BitVec 32 := Scalar.divsi v2 c1_i32
  let c4_i32_0 : BitVec 32 := 4#32
  let v4 : BitVec 32 := Scalar.remsi v3 c4_i32_0
  let c1_i32_4 : BitVec 32 := 1#32
  let v8 : BitVec 32 := Scalar.addi v4 c1_i32_4
  let c4_i32_5 : BitVec 32 := 4#32
  let v9 : BitVec 32 := Scalar.remsi v8 c4_i32_5
  let c1_i32_61 : BitVec 32 := 1#32
  let v64 : BitVec 32 := Scalar.muli v9 c1_i32_61
  let v65 : BitVec 32 := Scalar.addi c0_i32_62 v64
  v65.toNat
def k0_dev5 (d2 : Dev nD) : Nat :=
  let c0_i32_96 : BitVec 32 := 0#32
  let v2 : BitVec 32 := Dev.word d2
  let c1_i32 : BitVec 32 := 1#32
  let v3 : BitVec 32 := Scalar.divsi v2 c1_i32
  let c4_i32_0 : BitVec 32 := 4#32
  let v4 : BitVec 32 := Scalar.remsi v3 c4_i32_0
  let c1_i32_4 : BitVec 32 := 1#32
  let v8 : BitVec 32 := Scalar.addi v4 c1_i32_4
  let c4_i32_5 : BitVec 32 := 4#32
  let v9 : BitVec 32 := Scalar.remsi v8 c4_i32_5
  let c1_i32_95 : BitVec 32 := 1#32
  let v95 : BitVec 32 := Scalar.muli v9 c1_i32_95
  let v96 : BitVec 32 := Scalar.addi c0_i32_96 v95
  v96.toNat
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x32x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S2x1024x256x128 : Shape := ⟨4, ![2, 1024, 256, 128]⟩
abbrev S128x256 : Shape := ⟨2, ![128, 256]⟩
abbrev S_ : Shape := ⟨0, ![]⟩
abbrev S2x128 : Shape := ⟨2, ![2, 128]⟩
abbrev S2x1x1x128 : Shape := ⟨4, ![2, 1, 1, 128]⟩
abbrev S524288x128 : Shape := ⟨2, ![524288, 128]⟩
abbrev S524288x256 : Shape := ⟨2, ![524288, 256]⟩
abbrev S2x1024x256x256 : Shape := ⟨4, ![2, 1024, 256, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x256x128, .f32⟩
  | .hbm, ⟨1, _⟩ => ⟨S128x256, .f32⟩
  | .hbm, ⟨2, _⟩ => ⟨S_, .f32⟩
  | .hbm, ⟨3, _⟩ => ⟨S2x128, .f32⟩
  | .hbm, ⟨4, _⟩ => ⟨S2x1x1x128, .f32⟩
  | .hbm, ⟨5, _⟩ => ⟨S_, .f32⟩
  | .hbm, ⟨6, _⟩ => ⟨S2x1x1x128, .f32⟩
  | .hbm, ⟨7, _⟩ => ⟨S2x1x1x128, .f32⟩
  | .hbm, ⟨8, _⟩ => ⟨S_, .i32⟩
  | .hbm, ⟨9, _⟩ => ⟨S_, .f32⟩
  | .hbm, ⟨10, _⟩ => ⟨S2x128, .f32⟩
  | .hbm, ⟨11, _⟩ => ⟨S2x1x1x128, .f32⟩
  | .hbm, ⟨12, _⟩ => ⟨S_, .f32⟩
  | .hbm, ⟨13, _⟩ => ⟨S2x1x1x128, .f32⟩
  | .hbm, ⟨14, _⟩ => ⟨S2x1x1x128, .f32⟩
  | .hbm, ⟨15, _⟩ => ⟨S2x1024x256x128, .f32⟩
  | .hbm, ⟨16, _⟩ => ⟨S2x1024x256x128, .f32⟩
  | .hbm, ⟨17, _⟩ => ⟨S2x1024x256x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x128, .f32⟩
  | .hbm, ⟨23, _⟩ => ⟨S2x1x1x128, .f32⟩
  | .hbm, ⟨24, _⟩ => ⟨S2x1x1x128, .f32⟩
  | .hbm, ⟨25, _⟩ => ⟨S2x1x1x128, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x128, .f32⟩
  | .hbm, ⟨31, _⟩ => ⟨S2x1x1x128, .f32⟩
  | .hbm, ⟨32, _⟩ => ⟨S2x1024x256x128, .f32⟩
  | .hbm, ⟨33, _⟩ => ⟨S2x1024x256x128, .f32⟩
  | .hbm, ⟨34, _⟩ => ⟨S_, .f32⟩
  | .hbm, ⟨35, _⟩ => ⟨S2x1x1x128, .f32⟩
  | .hbm, ⟨36, _⟩ => ⟨S2x1x1x128, .f32⟩
  | .hbm, ⟨37, _⟩ => ⟨S2x1x1x128, .f32⟩
  | .hbm, ⟨38, _⟩ => ⟨S2x1024x256x128, .f32⟩
  | .hbm, ⟨39, _⟩ => ⟨S2x1024x256x128, .f32⟩
  | .hbm, ⟨40, _⟩ => ⟨S2x1024x256x128, .f32⟩
  | .hbm, ⟨41, _⟩ => ⟨S2x1024x256x128, .f32⟩
  | .hbm, ⟨42, _⟩ => ⟨S_, .f32⟩
  | .hbm, ⟨43, _⟩ => ⟨S2x1024x256x128, .f32⟩
  | .hbm, ⟨44, _⟩ => ⟨S2x1024x256x128, .f32⟩
  | .hbm, ⟨45, _⟩ => ⟨S2x1024x256x128, .f32⟩
  | .hbm, ⟨46, _⟩ => ⟨S524288x128, .f32⟩
  | .hbm, ⟨47, _⟩ => ⟨S524288x256, .f32⟩
  | .hbm, ⟨48, _⟩ => ⟨S2x1024x256x256, .f32⟩
  | .hbm, ⟨49, _⟩ => ⟨S2x1024x256x256, .bf16⟩
  | _, _ => ⟨S2x1024x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]
-- ==== Proof.Ideal.Vals.lean ====
/-
  What the kernel computes, as functions of the buffers at entry: the running totals of one device's statistics over the
  eight points of the first call's grid, and the totals of the ring after each of its three hops.
-/
module

public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Ring
public import Idealize.ShloMosaic.Lib.Writes
public import Idealize.ShloMosaic.Lib.StableHlo
public import Idealize.ShloMosaic.Lib.Tactic
public import Idealize.ShloMosaic.PureOps

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device to the right of `c` on the ring of four. -/
def nxt (c : Dev nD) : Dev nD := ⟨(c.val + 1) % 4, Nat.mod_lt _ (by decide)⟩
/-- The device to the left of `c` on the ring of four. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
/-- The ring as a permutation of the devices. -/
def ring : Dev nD ≃ Dev nD := ⟨nxt, prv, prv_nxt, nxt_prv⟩

theorem dev1_eq (c : Dev nD) (h : k0_dev1 c < nD) : (⟨k0_dev1 c, h⟩ : Dev nD) = prv c := Fin.ext (k0_dev1_eq c)
theorem dev2_eq (c : Dev nD) (h : k0_dev2 c < nD) : (⟨k0_dev2 c, h⟩ : Dev nD) = nxt c := Fin.ext (k0_dev2_eq c)
theorem dev3_eq (c : Dev nD) (h : k0_dev3 c < nD) : (⟨k0_dev3 c, h⟩ : Dev nD) = nxt c := Fin.ext (k0_dev3_eq c)
theorem dev4_eq (c : Dev nD) (h : k0_dev4 c < nD) : (⟨k0_dev4 c, h⟩ : Dev nD) = nxt c := Fin.ext (k0_dev4_eq c)
theorem dev5_eq (c : Dev nD) (h : k0_dev5 c < nD) : (⟨k0_dev5 c, h⟩ : Dev nD) = nxt c := Fin.ext (k0_dev5_eq c)

/-! ## The buffers -/

/-- The running totals: rows 0 and 1 the sums of the two images, rows 2 and 3 the sums of their squares. -/
abbrev totM : Memref sig .tc .vmem S8x128 .f32 := Memref.whole cc0_scratch0
/-- The four slots the totals travel through. -/
abbrev commM : Memref sig .tc .vmem S4x8x128 .f32 := Memref.whole cc0_scratch1

theorem slot_inb (k : Fin 4) : ∀ a, (![k.val, 0, 0] : Fin 3 → ℕ) a + S1x8x128.size a ≤ S4x8x128.size a := by
  revert k; decide
/-- The rectangle of slot `k` of the four. -/
abbrev slotR (k : Fin 4) : Rect S4x8x128 := Rect.unit (s := S4x8x128) ![k.val, 0, 0] S1x8x128.size (slot_inb k)
/-- Slot `k` of the four. -/
abbrev slotM (k : Fin 4) : Memref sig .tc .vmem S8x128 .f32 :=
  (commM.slice (slotR k) (fun _ => rfl)).squeeze S8x128 squeezes_S1x8x128_S8x128

/-- The whole of the totals; its single rows. -/
abbrev rW : Rect S8x128 := Rect.unit (s := S8x128) ![0, 0] S8x128.size inb_S8x128_S8x128_0_0
abbrev r0 : Rect S8x128 := Rect.unit (s := S8x128) ![0, 0] S1x128.size inb_S8x128_S1x128_0_0
abbrev r1 : Rect S8x128 := Rect.unit (s := S8x128) ![1, 0] S1x128.size inb_S8x128_S1x128_1_0
abbrev r2 : Rect S8x128 := Rect.unit (s := S8x128) ![2, 0] S1x128.size inb_S8x128_S1x128_2_0
abbrev r3 : Rect S8x128 := Rect.unit (s := S8x128) ![3, 0] S1x128.size inb_S8x128_S1x128_3_0

/-! ## The running totals -/

/-- The totals after a block of the first image is added to them: row 0 its sum, row 2 the sum of its squares. -/
def acc0 (x : Vec F S1x64x256x128 .f32) (f : Vec F S8x128 .f32) : Vec F S8x128 .f32 :=
  totM.view.writes (Elt F) (totM.view.writes (Elt F) f [⟨r0, k0_pay11 x (totM.view.readAt (Elt F) r0.toLoadRect f)⟩])
    [⟨r2, k0_pay12 x (totM.view.readAt (Elt F) r2.toLoadRect
      (totM.view.writes (Elt F) f [⟨r0, k0_pay11 x (totM.view.readAt (Elt F) r0.toLoadRect f)⟩]))⟩]

/-- The totals after a block of the second image is added to them: row 1 its sum, row 3 the sum of its squares. -/
def acc1 (x : Vec F S1x64x256x128 .f32) (f : Vec F S8x128 .f32) : Vec F S8x128 .f32 :=
  totM.view.writes (Elt F) (totM.view.writes (Elt F) f [⟨r1, k0_pay13 x (totM.view.readAt (Elt F) r1.toLoadRect f)⟩])
    [⟨r3, k0_pay14 x (totM.view.readAt (Elt F) r3.toLoadRect
      (totM.view.writes (Elt F) f [⟨r1, k0_pay13 x (totM.view.readAt (Elt F) r1.toLoadRect f)⟩]))⟩]

/-- The four blocks of rows the result is written in. -/
abbrev q0 : Rect S8x128 := Rect.unit (s := S8x128) ![0, 0] S2x128.size inb_S8x128_S2x128_0_0
abbrev q2 : Rect S8x128 := Rect.unit (s := S8x128) ![2, 0] S2x128.size inb_S8x128_S2x128_2_0
abbrev q4 : Rect S8x128 := Rect.unit (s := S8x128) ![4, 0] S4x128.size inb_S8x128_S4x128_4_0

/-- The pieces the result of the first call is written in, from the ring's totals. -/
abbrev outPieces (v : Vec F S8x128 .f32) : List (View.Piece (Elt F) S8x128 .f32) :=
  [⟨q4, k0_pay15 (F := F)⟩, ⟨q2, k0_pay6 v⟩, ⟨q0, k0_pay5 v⟩]

/-- The result of the first call, from the ring's totals: rows 0 and 1 the means, rows 2 and 3 the reciprocal deviations. -/
def outOf (v : Vec F S8x128 .f32) : Vec F S8x128 .f32 := totM.view.writes (Elt F) (k0_pay7 (F := F)) (outPieces v)

variable (m : (ℓ : Loc nD τ sig) → Buf (Elt F) ℓ)

/-- The block of device `c`'s operand at point `t`. -/
def xblk (c : Dev nD) (t : Fin cfg0.N) : Vec F S1x64x256x128 .f32 :=
  ((cfg0.win 0).blk t).view.read (Elt F) (V0 m c main_arg0)

/-- Device `c`'s totals after the first `n` points: the first four add blocks of the first image, the rest of the second. -/
def totn (c : Dev nD) : ℕ → Vec F S8x128 .f32
  | 0 => k0_pay7 (F := F)
  | n + 1 =>
    if h : n < cfg0.N then
      if n < 4 then acc0 (xblk m c ⟨n, h⟩) (totn c n) else acc1 (xblk m c ⟨n, h⟩) (totn c n)
    else totn c n

theorem totn_lo (c : Dev nD) (t : Fin cfg0.N) (h : t.val < 4) :
    totn m c (t.val + 1) = acc0 (xblk m c t) (totn m c t.val) := by
  show dite _ _ _ = _
  rw [dif_pos t.isLt, if_pos h]
theorem totn_hi (c : Dev nD) (t : Fin cfg0.N) (h : ¬ t.val < 4) :
    totn m c (t.val + 1) = acc1 (xblk m c t) (totn m c t.val) := by
  show dite _ _ _ = _
  rw [dif_pos t.isLt, if_neg h]

/-- Device `c`'s own totals. -/
def part (c : Dev nD) : Vec F S8x128 .f32 := totn m c 8

/-- What slot `k` of device `c` holds once filled: the totals of the device `k` to the left. -/
def sv : ℕ → Dev nD → Vec F S8x128 .f32
  | 0, c => part m c
  | k + 1, c => sv k (prv c)

theorem sv_nxt (k : ℕ) (c : Dev nD) : sv m (k + 1) (nxt c) = sv m k c := by
  show sv m k (prv (nxt c)) = _
  rw [prv_nxt]

/-- The totals of device `c` after each hop of the ring. -/
def hop1 (c : Dev nD) : Vec F S8x128 .f32 := k0_pay2 (part m c) (k0_pay1 (sv m 1 c))
def hop2 (c : Dev nD) : Vec F S8x128 .f32 := k0_pay3 (hop1 m c) (k0_pay1 (sv m 2 c))
def hop3 (c : Dev nD) : Vec F S8x128 .f32 := k0_pay4 (hop2 m c) (k0_pay1 (sv m 3 c))

/-- The statistics device `c`'s first call leaves. -/
def stat (c : Dev nD) : Vec F S8x128 .f32 := outOf (hop3 m c)

/-! ## Reads and writes through the views -/

omit [FloatOps F] in
/-- The result's three pieces cover it: through any view they leave the same contents. -/
theorem read_out (v : Memref sig .tc .vmem S8x128 .f32) (f : v.view.ty.Contents (Elt F)) (a : FVec F S4x128 .f32) (b c : FVec F S2x128 .f32)
    (g : Vec F S8x128 .f32) :
    v.view.read (Elt F) (v.view.writes (Elt F) f [⟨q4, a⟩, ⟨q2, b⟩, ⟨q0, c⟩])
      = totM.view.writes (Elt F) g [⟨q4, a⟩, ⟨q2, b⟩, ⟨q0, c⟩] := by
  refine (View.read_writes_of_cover v.view f totM.view g _ fun y => ?_).trans (View.read_whole _ _)
  have h0 : (y 0).val < 8 := (y 0).isLt
  have h1 : (y 1).val < 128 := (y 1).isLt
  by_cases h4 : 4 ≤ (y 0).val
  · refine ⟨_, List.mem_cons_self, ?_⟩
    rw [Rect.mem_set_unit]
    intro a; fin_cases a <;> simp <;> omega
  by_cases h2 : 2 ≤ (y 0).val
  · refine ⟨_, List.mem_cons_of_mem _ List.mem_cons_self, ?_⟩
    rw [Rect.mem_set_unit]
    intro a; fin_cases a <;> simp <;> omega
  · refine ⟨_, List.mem_cons_of_mem _ (List.mem_cons_of_mem _ List.mem_cons_self), ?_⟩
    rw [Rect.mem_set_unit]
    intro a; fin_cases a <;> simp <;> omega

theorem z2 : (![0, 0] : Fin 2 → ℕ) = fun _ => 0 := funext fun a => by fin_cases a <;> rfl

omit [FloatOps F] in
theorem read_tot (f : Vec F S8x128 .f32) : totM.view.readAt (Elt F) rW.toLoadRect f = f :=
  Memref.readAt_unit_zero (Elt F) cc0_scratch0 z2 _ f
omit [FloatOps F] in
theorem write_tot (f w : Vec F S8x128 .f32) :
    (totM.access rW : View sig .tc _ _ _).write (Elt F) f w Finset.univ = w :=
  Memref.write_access_unit_zero_univ (Elt F) cc0_scratch0 z2 _ f w

/-- A load of slot `k` through the four reads what the slot holds, as a block of one. -/
theorem read_slot (k : Fin 4) (f : Vec F S4x8x128 .f32) (X : Vec F S8x128 .f32) (h : (slotM k).view.read (Elt F) f = X) :
    commM.view.readAt (Elt F) (slotR k).toLoadRect f = k0_pay1 X := by
  subst h
  funext i
  show _ = ((slotM k).view.read (Elt F) f) (Shape.reshapeEquiv _ i)
  show _ = f ((slotR k).emb (Shape.reshapeEquiv _ (Shape.reshapeEquiv _ i)))
  rw [Shape.reshapeEquiv_reshapeEquiv, Shape.reshapeEquiv_self]
  rfl

/-- A store to slot `k` through the four of a block of one leaves the slot holding it. -/
theorem write_slot (k : Fin 4) (f : Vec F S4x8x128 .f32) (X : Vec F S8x128 .f32) :
    (slotM k).view.read (Elt F) ((commM.access (slotR k) : View sig .tc _ _ _).write (Elt F) f (k0_pay1 X) Finset.univ) = X := by
  funext i
  show ((commM.access (slotR k) : View sig .tc _ _ _).read (Elt F)
    ((commM.access (slotR k) : View sig .tc _ _ _).write (Elt F) f (k0_pay1 X) Finset.univ)) (Shape.reshapeEquiv _ i) = _
  rw [View.read_write_univ]
  show X (Shape.reshapeEquiv _ (Shape.reshapeEquiv _ i)) = _
  rw [Shape.reshapeEquiv_reshapeEquiv, Shape.reshapeEquiv_self]

end Cert.KernelIdeal.Stats
-- ==== Proof.Ideal.Proto.lean ====
/-
  The protocol of the first call. Per device `c` of the ring:
    · its barrier cell, round 0, two units: one paid by its right neighbour, who hands over its own slots 1, 2, 3 and
      the fact that it has entered (round 0 of its three receive cells is reached); one paid by its left neighbour, who
      hands over nothing. `c` waits for both at the first point.
    · its send cells 0, 1, 2, round 0: paid by its own copy out of slot k, which gives slot k back as it was;
    · its receive cells 0, 1, 2, round 0: paid by the left neighbour's copy into slot k + 1, which then holds what the
      left neighbour's slot k holds: the totals of the device k + 1 to the left.
  Levels: barrier below receive 0 below receive 1 below receive 2; the sends at the bottom.
-/
module

public import proofs.«01_k».proof.Proof.Ideal.Vals

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := barrier0
theorem sem_lt (k : Fin 4) : 3 + k.val < 17 ∧ 7 + k.val < 17 := ⟨by omega, by omega⟩
/-- The semaphore of the copy out of slot `k`. -/
abbrev sendS (k : Fin 4) : DmaSem sig := ⟨3 + k.val, (sem_lt k).1⟩
/-- The semaphore of the copy into slot `k`. -/
abbrev recvS (k : Fin 4) : DmaSem sig := ⟨7 + k.val, (sem_lt k).2⟩

abbrev barCell (c : Dev nD) : GSem nD τ sig := ((c : Thread nD τ), .reg barS)
abbrev sendCell (k : Fin 4) (c : Dev nD) : GSem nD τ sig := ((c : Thread nD τ), .dma (sendS k))
abbrev recvCell (k : Fin 4) (c : Dev nD) : GSem nD τ sig := ((c : Thread nD τ), .dma (recvS k))

/-- What a cell is for: the barrier, the copy out of a slot, the copy into a slot, or none of the protocol's. -/
inductive Role where
  | bar
  | send (k : Fin 4)
  | recv (k : Fin 4)
  | off

/-- The role of a DMA semaphore, by its number. -/
def roleOf : ℕ → Role
  | 3 => .send 0
  | 4 => .send 1
  | 5 => .send 2
  | 8 => .recv 1
  | 9 => .recv 2
  | 10 => .recv 3
  | _ => .off
/-- The role of a semaphore. -/
def role : SemLoc sig → Role
  | .reg _ => .bar
  | .dma s => roleOf s.val

/-- The credit of one slot's copy. -/
abbrev N : ℕ := (slotM 0).view.dmaCredit
theorem N_pos : 0 < N := View.dmaCredit_pos _ (by decide)

variable (m : (ℓ : Loc nD τ sig) → Buf (Elt F) ℓ)

/-- Slot `k` of device `c`, holding `X`. -/
abbrev slot (k : Fin 4) (c : Dev nD) (X : Vec F S8x128 .f32) : sProp 𝕄 :=
  owns (c : Thread nD τ) (slotM k) fullShare X
/-- Slot `k` of device `c`, at anything. -/
abbrev slotAny (k : Fin 4) (c : Dev nD) : sProp 𝕄 := iprop(∃ X : Vec F S8x128 .f32, slot k c X)

/-- What the right neighbour hands over on `c`'s barrier cell. -/
def barPay (c : Dev nD) : sProp 𝕄 :=
  iprop((slotAny 1 (nxt c) ∗ slotAny 2 (nxt c) ∗ slotAny 3 (nxt c))
    ∗ reached ER (recvCell 1 (nxt c)) 0 ∗ reached ER (recvCell 2 (nxt c)) 0 ∗ reached ER (recvCell 3 (nxt c)) 0)

/-- The duties of a role's round 0. -/
def roleDuties : Role → Finset Bool
  | .bar => Finset.univ
  | .send _ => {false}
  | .recv _ => {false}
  | .off => ∅
/-- The amount of one duty of a role. -/
def roleAmount : Role → ℕ
  | .bar => 1
  | _ => N
/-- The payload of one duty of a role at device `c`. -/
def rolePay (c : Dev nD) (d : Bool) : Role → sProp 𝕄
  | .bar => if d then barPay c else iprop(emp)
  | .send k => slot k c (sv m k.val c)
  | .recv k => slot k c (sv m k.val c)
  | .off => iprop(emp)

/-- The schedule: one round on every cell of the protocol. -/
def rd : Rounds.Schedule (GSem nD τ sig) Bool 𝕄 where
  duties g r := if r = 0 ∧ g.1.2 = .tc then roleDuties (role g.2) else ∅
  unitless _ := False
  amount g _ _ := roleAmount (role g.2)
  payload g _ d := rolePay m g.1.1 d (role g.2)
  amount_pos g _ _ _ := by
    cases role g.2
    · exact Nat.one_pos
    · exact N_pos
    · exact N_pos
    · exact N_pos

instance rd_payload_storable (g : GSem nD τ sig) (r : ℕ) (d : Bool) :
    BI.Storable (upEmb : UEmb _ 𝕄) ((rd (F := F) m).payload g r d) := by
  show BI.Storable upEmb (rolePay m g.1.1 d (role g.2))
  unfold rolePay barPay
  cases role g.2 <;> dsimp only <;> (repeat' split) <;> infer_instance

section Sched

variable (c : Dev nD)

/-- The copies out of slot `k`, for the slots that are sent. -/
theorem role_send (k : Fin 4) (hk : k ≠ 3) : role (.dma (sendS k)) = .send k := by
  fin_cases k <;> first | rfl | exact absurd rfl hk
theorem role_recv (k : Fin 4) (hk : k ≠ 0) : role (.dma (recvS k)) = .recv k := by
  fin_cases k <;> first | rfl | exact absurd rfl hk
theorem role_bar : role (.reg barS) = .bar := rfl

theorem duties_bar : (rd (F := F) m).duties (barCell c) 0 = Finset.univ := by dsimp only [rd]; exact if_pos ⟨rfl, rfl⟩
theorem duties_send (k : Fin 4) (hk : k ≠ 3) : (rd (F := F) m).duties (sendCell k c) 0 = {false} := by
  dsimp only [rd]; rw [if_pos ⟨rfl, rfl⟩, role_send k hk]; rfl
theorem duties_recv (k : Fin 4) (hk : k ≠ 0) : (rd (F := F) m).duties (recvCell k c) 0 = {false} := by
  dsimp only [rd]; rw [if_pos ⟨rfl, rfl⟩, role_recv k hk]; rfl
theorem duties_later (g : GSem nD τ sig) : ∀ r, 1 ≤ r → (rd (F := F) m).duties g r = ∅ :=
  fun r hr => by dsimp only [rd]; rw [if_neg (fun h => by omega)]

theorem amount_bar (d : Bool) : (rd (F := F) m).amount (barCell c) 0 d = 1 := rfl
theorem amount_send (k : Fin 4) (hk : k ≠ 3) (d : Bool) : (rd (F := F) m).amount (sendCell k c) 0 d = N := by
  dsimp only [rd]; rw [role_send k hk]; rfl
theorem amount_recv (k : Fin 4) (hk : k ≠ 0) (d : Bool) : (rd (F := F) m).amount (recvCell k c) 0 d = N := by
  dsimp only [rd]; rw [role_recv k hk]; rfl

theorem expect_bar : (rd (F := F) m).expect (barCell c) 0 = 2 := by
  unfold Schedule.expect Schedule.amountOf; rw [duties_bar]; rfl
theorem expect_send (k : Fin 4) (hk : k ≠ 3) : (rd (F := F) m).expect (sendCell k c) 0 = N := by
  unfold Schedule.expect Schedule.amountOf; rw [duties_send m c k hk, Finset.sum_singleton, amount_send m c k hk]
theorem expect_recv (k : Fin 4) (hk : k ≠ 0) : (rd (F := F) m).expect (recvCell k c) 0 = N := by
  unfold Schedule.expect Schedule.amountOf; rw [duties_recv m c k hk, Finset.sum_singleton, amount_recv m c k hk]

theorem payload_bar_true : (rd (F := F) m).payload (barCell c) 0 true = barPay c := rfl
theorem payload_bar_false : (rd (F := F) m).payload (barCell c) 0 false = iprop(emp) := rfl
theorem payload_send (k : Fin 4) (hk : k ≠ 3) (d : Bool) :
    (rd (F := F) m).payload (sendCell k c) 0 d = slot k c (sv m k.val c) := by
  dsimp only [rd]; rw [role_send k hk]; rfl
theorem payload_recv (k : Fin 4) (hk : k ≠ 0) (d : Bool) :
    (rd (F := F) m).payload (recvCell k c) 0 d = slot k c (sv m k.val c) := by
  dsimp only [rd]; rw [role_recv k hk]; rfl

theorem rest_bar : bigSep ((rd (F := F) m).duties (barCell c) 0 \ ∅) (fun u => (rd (F := F) m).payload (barCell c) 0 u)
    = iprop(barPay c ∗ emp) := by
  rw [Finset.sdiff_empty, duties_bar, bigSep_univ_eq_bigSepL [true, false] (by decide) (by decide)]
  rfl
theorem rest_send (k : Fin 4) (hk : k ≠ 3) :
    bigSep ((rd (F := F) m).duties (sendCell k c) 0 \ ∅) (fun u => (rd (F := F) m).payload (sendCell k c) 0 u)
      = slot k c (sv m k.val c) := by
  rw [Finset.sdiff_empty, duties_send m c k hk, bigSep_singleton, payload_send m c k hk]
theorem rest_recv (k : Fin 4) (hk : k ≠ 0) :
    bigSep ((rd (F := F) m).duties (recvCell k c) 0 \ ∅) (fun u => (rd (F := F) m).payload (recvCell k c) 0 u)
      = slot k c (sv m k.val c) := by
  rw [Finset.sdiff_empty, duties_recv m c k hk, bigSep_singleton, payload_recv m c k hk]

end Sched

/-! ## What each core owes; the levels -/

/-- What a device owes before each of its three copies: the receive credits of its right neighbour still to be paid. -/
def D1 (c : Dev nD) : CellTallies nD τ sig Unit := tallyAt (recvCell 3 (nxt c)) () N
def D2 (c : Dev nD) : CellTallies nD τ sig Unit := D1 c + tallyAt (recvCell 2 (nxt c)) () N
def D3 (c : Dev nD) : CellTallies nD τ sig Unit := D2 c + tallyAt (recvCell 1 (nxt c)) () N
/-- At launch: those, and a unit to each neighbour's barrier cell. -/
def O₀ (c : Dev nD) : CellTallies nD τ sig Unit :=
  (D3 c + tallyAt (barCell (nxt c)) () 1) + tallyAt (barCell (prv c)) () 1

def L (g : GSem nD τ sig) : Finset Unit := if g.1.2 = .tc then {()} else ∅
/-- The level of a role. -/
def roleLv : Role → ℕ
  | .bar => 1
  | .recv k => 1 + k.val
  | _ => 0
/-- The level of a cell. -/
def lv (g : GSem nD τ sig) (_ : Unit) : ℕ := roleLv (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_recv (k : Fin 4) (hk : k ≠ 0) (c : Dev nD) (u : Unit) : lv (recvCell k c) u = 1 + k.val := by
  unfold lv; rw [role_recv k hk]; rfl
theorem lv_send (k : Fin 4) (c : Dev nD) (u : Unit) : lv (sendCell k c) u = 0 := by
  revert k; intro k; unfold lv
  by_cases hk : k = 3
  · subst hk; rfl
  · rw [role_send k hk]; rfl
theorem lv_bar (c : Dev nD) (u : Unit) : lv (barCell c) u = 1 := rfl

theorem D1_pos {c : Dev nD} {g : GSem nD τ sig} {u : Unit} (h : 0 < D1 c g u) : g = recvCell 3 (nxt c) := by
  unfold D1 at h
  rw [tallyAt_apply] at h
  by_contra hn
  rw [if_neg (fun h => hn h.1)] at h
  exact absurd h (Nat.lt_irrefl 0)
theorem D2_pos {c : Dev nD} {g : GSem nD τ sig} {u : Unit} (h : 0 < D2 c g u) :
    g = recvCell 3 (nxt c) ∨ g = recvCell 2 (nxt c) := by
  unfold D2 at h
  rw [Pi.add_apply, Finsupp.add_apply, tallyAt_apply] at h
  by_cases h1 : 0 < D1 c g u
  · exact .inl (D1_pos h1)
  · right
    by_contra hn
    rw [if_neg (fun h => hn h.1)] at h
    omega
theorem D3_pos {c : Dev nD} {g : GSem nD τ sig} {u : Unit} (h : 0 < D3 c g u) :
    g = recvCell 3 (nxt c) ∨ g = recvCell 2 (nxt c) ∨ g = recvCell 1 (nxt c) := by
  unfold D3 at h
  rw [Pi.add_apply, Finsupp.add_apply, tallyAt_apply] at h
  by_cases h1 : 0 < D2 c g u
  · rcases D2_pos h1 with h | h
    · exact .inl h
    · exact .inr (.inl h)
  · right; right
    by_contra hn
    rw [if_neg (fun h => hn h.1)] at h
    omega

/-- A wait on a cell of device `c` is allowed while what is owed lies on cells above it. -/
theorem mayWait_of (c : Dev nD) (sm : SemLoc sig) (O : CellTallies nD τ sig Unit) (b : ℕ)
    (hw : lv ((c : Thread nD τ), sm) () ≤ b) (h : ∀ g u, 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hw)
    (fun g u hg => (h g u hg).2)

theorem mayWait_bar (c : Dev nD) : (levAts L lv : sProp 𝕄) ⊢ MayWait (c : Thread nD τ) (.reg barS) () (D3 c) :=
  mayWait_of c _ _ 1 (le_of_eq (lv_bar c ())) fun g u h => by
    rcases D3_pos h with rfl | rfl | rfl <;> exact ⟨rfl, by rw [lv_recv _ (by decide)]; decide⟩
theorem mayWait_recv1 (c : Dev nD) : (levAts L lv : sProp 𝕄) ⊢ MayWait (c : Thread nD τ) (.dma (recvS 1)) () (D2 c) :=
  mayWait_of c _ _ 2 (le_of_eq (lv_recv 1 (by decide) c ())) fun g u h => by
    rcases D2_pos h with rfl | rfl <;> exact ⟨rfl, by rw [lv_recv _ (by decide)]; decide⟩
theorem mayWait_recv2 (c : Dev nD) : (levAts L lv : sProp 𝕄) ⊢ MayWait (c : Thread nD τ) (.dma (recvS 2)) () (D1 c) :=
  mayWait_of c _ _ 3 (le_of_eq (lv_recv 2 (by decide) c ())) fun g u h => by
    rcases D1_pos h with rfl; exact ⟨rfl, by rw [lv_recv _ (by decide)]; decide⟩
theorem mayWait_send0 (c : Dev nD) : (levAts L lv : sProp 𝕄) ⊢ MayWait (c : Thread nD τ) (.dma (sendS 0)) () (D2 c) :=
  mayWait_of c _ _ 0 (le_of_eq (lv_send 0 c ())) fun g u h => by
    rcases D2_pos h with rfl | rfl <;> exact ⟨rfl, by rw [lv_recv _ (by decide)]; decide⟩
theorem mayWait_send1 (c : Dev nD) : (levAts L lv : sProp 𝕄) ⊢ MayWait (c : Thread nD τ) (.dma (sendS 1)) () (D1 c) :=
  mayWait_of c _ _ 0 (le_of_eq (lv_send 1 c ())) fun g u h => by
    rcases D1_pos h with rfl; exact ⟨rfl, by rw [lv_recv _ (by decide)]; decide⟩

/-! ## The ghost state -/

/-- The invariants of every cell the protocol uses. -/
def cells : Finset (GSem nD τ sig) :=
  Finset.univ.biUnion fun c : Dev nD =>
    {barCell c, sendCell 0 c, sendCell 1 c, sendCell 2 c, recvCell 1 c, recvCell 2 c, recvCell 3 c}
def invs (K : GSem nD τ sig → ℕ) : sProp 𝕄 := bigSep cells fun g => cellInv ER (rd m) (K g) g
instance invs_persistent (K : GSem nD τ sig → ℕ) : BI.Persistent (invs m K) := by unfold invs; infer_instance

theorem mem_cells (c : Dev nD) (g : GSem nD τ sig)
    (h : g ∈ ({barCell c, sendCell 0 c, sendCell 1 c, sendCell 2 c, recvCell 1 c, recvCell 2 c, recvCell 3 c} : Finset (GSem nD τ sig))) :
    g ∈ cells := Finset.mem_biUnion.mpr ⟨c, Finset.mem_univ c, h⟩

theorem inv_of (K : GSem nD τ sig → ℕ) (g : GSem nD τ sig) (h : g ∈ cells) :
    invs m K ⊢ cellInv ER (rd m) (K g) g := BI.bigSep_elim h
theorem inv_bar (K : GSem nD τ sig → ℕ) (c : Dev nD) : invs m K ⊢ cellInv ER (rd m) (K (barCell c)) (barCell c) :=
  inv_of m K _ (mem_cells c _ (by simp))
theorem inv_send (K : GSem nD τ sig → ℕ) (k : Fin 4) (hk : k ≠ 3) (c : Dev nD) :
    invs m K ⊢ cellInv ER (rd m) (K (sendCell k c)) (sendCell k c) :=
  inv_of m K _ (mem_cells c _ (by
    have : k = 0 ∨ k = 1 ∨ k = 2 := by revert k; decide
    rcases this with rfl | rfl | rfl <;> simp))
theorem inv_recv (K : GSem nD τ sig → ℕ) (k : Fin 4) (hk : k ≠ 0) (c : Dev nD) :
    invs m K ⊢ cellInv ER (rd m) (K (recvCell k c)) (recvCell k c) :=
  inv_of m K _ (mem_cells c _ (by
    have : k = 1 ∨ k = 2 ∨ k = 3 := by revert k; decide
    rcases this with rfl | rfl | rfl <;> simp))

/-- Closing a cell after its one round: its counter back in hand at zero. -/
theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

abbrev 𝒱₀ : Variants := Variants.none

/-- The duty tokens device `c` pays its copies with, its positions on the cells it waits on during the ring, and the credits
    of the copies into its slots. -/
def ringGhost (K : GSem nD τ sig → ℕ) (c : Dev nD) : sProp 𝕄 :=
  iprop(invs m K
    ∗ (atPos ER (sendCell 0 c) 0 ∅ 0 ∗ atPos ER (sendCell 1 c) 0 ∅ 0 ∗ atPos ER (sendCell 2 c) 0 ∅ 0)
    ∗ (atPos ER (recvCell 1 c) 0 ∅ 0 ∗ atPos ER (recvCell 2 c) 0 ∅ 0 ∗ atPos ER (recvCell 3 c) 0 ∅ 0)
    ∗ (reached ER (sendCell 0 c) 0 ∗ reached ER (sendCell 1 c) 0 ∗ reached ER (sendCell 2 c) 0)
    ∗ (dutyTok ER (sendCell 0 c) 0 false ∗ dutyTok ER (sendCell 1 c) 0 false ∗ dutyTok ER (sendCell 2 c) 0 false)
    ∗ (dutyTok ER (recvCell 1 (nxt c)) 0 false ∗ dutyTok ER (recvCell 2 (nxt c)) 0 false ∗ dutyTok ER (recvCell 3 (nxt c)) 0 false)
    ∗ (cred (tallyAt (recvCell 1 c) () N) ∗ cred (tallyAt (recvCell 2 c) () N) ∗ cred (tallyAt (recvCell 3 c) () N))
    ∗ levAts L lv)

/-- What device `c` takes into its first point: the above, and what it signals and waits with on the barrier. -/
def barGhost (c : Dev nD) : sProp 𝕄 :=
  iprop(atPos ER (barCell c) 0 ∅ 0
    ∗ (reached ER (recvCell 1 c) 0 ∗ reached ER (recvCell 2 c) 0 ∗ reached ER (recvCell 3 c) 0)
    ∗ (reached ER (barCell (prv c)) 0 ∗ reached ER (barCell (nxt c)) 0)
    ∗ (dutyTok ER (barCell (prv c)) 0 true ∗ dutyTok ER (barCell (nxt c)) 0 false)
    ∗ cred (tallyAt (barCell c) () 2))

/-- What device `c` holds between its first point and its last: its own slot 0, the right neighbour's other slots. -/
def ready (c : Dev nD) : sProp 𝕄 :=
  iprop(slotAny 0 c ∗ (slotAny 1 (nxt c) ∗ slotAny 2 (nxt c) ∗ slotAny 3 (nxt c))
    ∗ (reached ER (recvCell 1 (nxt c)) 0 ∗ reached ER (recvCell 2 (nxt c)) 0 ∗ reached ER (recvCell 3 (nxt c)) 0))

/-- The counters of the cells the ring uses, at zero. -/
def closed (c : Dev nD) : sProp 𝕄 :=
  iprop((semVal (sendCell 0 c) 0 ∗ semVal (sendCell 1 c) 0 ∗ semVal (sendCell 2 c) 0)
    ∗ (semVal (recvCell 1 c) 0 ∗ semVal (recvCell 2 c) 0 ∗ semVal (recvCell 3 c) 0))

/-- The totals buffer at `f`. -/
abbrev totPt (c : Dev nD) (f : Vec F S8x128 .f32) : sProp 𝕄 :=
  (totM.view.loc (c : Thread nD τ)) ↦{fullShare} f

end Cert.KernelIdeal.Stats
-- ==== Proof.Ideal.Steps.lean ====
/-
  The steps of the first call's body: loads and stores of the totals and of the slots, a copy from a slot to the right
  neighbour's next, the waits on a slot's two cells.
-/
module

public import proofs.«01_k».proof.Proof.Ideal.Proto

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The proposition that a program of the first call, on device `c`, runs to `Q`. -/
abbrev wpc (c : Dev nD) {β : Type} (p : Prog (TpuEff nD τ sig (Elt F) Λ₀ .tc) β) (R : β → sProp 𝕄) : sProp 𝕄 :=
  wp frame (wpE (defs₀ (F := F)) 𝒱₀ (c : Thread nD τ) none) Set.univ p R

/-- A load from the totals. -/
theorem tot_load {α : Type} {Q : α → sProp 𝕄} (c : Dev nD) (f : Vec F S8x128 .f32) (r : Rect S8x128) {hl : totM.view.LoadsAt r.toLoadRect}
    {k : (r.shape.Idx → Elt F .f32) → Prog (TpuEff nD τ sig (Elt F) Λ₀ .tc) α} :
    totPt c f ⊢ iprop((totPt c f -∗ wpc c (k (totM.view.readAt (Elt F) r.toLoadRect f)) Q)
      -∗ wpc c (.op (.load totM r.toLoadRect hl) k) Q) :=
  wp_load 𝒱₀ (c : Thread nD τ) none Set.univ (m := totM) (Finset.subset_univ _)

/-- A store to the totals. -/
theorem tot_store {α : Type} {Q : α → sProp 𝕄} (c : Dev nD) (f : Vec F S8x128 .f32) (r : Rect S8x128) (w : r.shape.Idx → Elt F .f32)
    {hx : (totM.access r).Stores Finset.univ} {hm : (Finset.univ : Finset r.shape.Idx) = Finset.univ ∨ ∀ a, r.stride a = 1}
    {k : PUnit → Prog (TpuEff nD τ sig (Elt F) Λ₀ .tc) α} :
    totPt c f ⊢ iprop((totPt c (totM.view.writes (Elt F) f [⟨r, w⟩]) -∗ wpc c (k ⟨⟩) Q)
      -∗ wpc c (.op (.store totM r w Finset.univ hx hm) k) Q) :=
  wp_store 𝒱₀ (c : Thread nD τ) none Set.univ (m := totM) (r := r) (w := w) (Mk := Finset.univ) (hx := hx) (hm := hm)
    (S := Finset.univ) (f := f) (Finset.subset_univ _)

/-- A store of the totals whole. -/
theorem tot_store_whole {α : Type} {Q : α → sProp 𝕄} (c : Dev nD) (f w : Vec F S8x128 .f32)
    {hx : (totM.access rW).Stores Finset.univ} {hm : (Finset.univ : Finset rW.shape.Idx) = Finset.univ ∨ ∀ a, rW.stride a = 1}
    {k : PUnit → Prog (TpuEff nD τ sig (Elt F) Λ₀ .tc) α} :
    totPt c f ⊢ iprop((totPt c w -∗ wpc c (k ⟨⟩) Q) -∗ wpc c (.op (.store totM rW w Finset.univ hx hm) k) Q) := by
  have h := tot_store (Q := Q) c f rW w (hx := hx) (hm := hm) (k := k)
  rwa [show totM.view.writes (Elt F) f [⟨rW, w⟩] = w from write_tot f w] at h

theorem slot_set (k : Fin 4) : (slotM k).view.set = (commM.access (slotR k) : View sig .tc _ _ _).set :=
  View.set_reshape _ _

/-- A load of a slot through the four. -/
theorem slot_load {α : Type} {Q : α → sProp 𝕄} (k : Fin 4) (c : Dev nD) (X : Vec F S8x128 .f32) {hl : commM.view.LoadsAt (slotR k).toLoadRect}
    {p : ((slotR k).shape.Idx → Elt F .f32) → Prog (TpuEff nD τ sig (Elt F) Λ₀ .tc) α} :
    slot k c X ⊢ iprop((slot k c X -∗ wpc c (p (k0_pay1 X)) Q)
      -∗ wpc c (.op (.load commM (slotR k).toLoadRect hl) p) Q) := by
  unfold slot owns
  iintro ⟨%f, %hf, H⟩ Hk
  iapply (wp_load 𝒱₀ (c : Thread nD τ) none Set.univ (m := commM) (r := (slotR k).toLoadRect) (S := (slotM k).view.set) (f := f)
    (by rw [slot_set, View.set_slice]; exact subset_of_eq rfl)) $$ [H]
  · iexact H
  iintro H
  rw [read_slot k f X hf]
  iapply Hk
  iexists f
  isplitr; · ipureintro; exact hf
  iexact H

/-- A store of a block of one to a slot through the four. -/
theorem slot_store {α : Type} {Q : α → sProp 𝕄} (k : Fin 4) (c : Dev nD) (X Y : Vec F S8x128 .f32) {hx : (commM.access (slotR k)).Stores Finset.univ}
    {hm : (Finset.univ : Finset (slotR k).shape.Idx) = Finset.univ ∨ ∀ a, (slotR k).stride a = 1}
    {p : PUnit → Prog (TpuEff nD τ sig (Elt F) Λ₀ .tc) α} :
    slot k c X ⊢ iprop((slot k c Y -∗ wpc c (p ⟨⟩) Q)
      -∗ wpc c (.op (.store commM (slotR k) (k0_pay1 Y) Finset.univ hx hm) p) Q) := by
  unfold slot owns
  iintro ⟨%f, -, H⟩ Hk
  iapply (wp_store 𝒱₀ (c : Thread nD τ) none Set.univ (m := commM) (r := slotR k) (S := (slotM k).view.set) (f := f)
    (by rw [slot_set]; exact View.setOn_subset_set _ _)) $$ [H]
  · iexact H
  iintro H
  iapply Hk
  iexists _
  isplitr; · ipureintro; exact write_slot k f Y
  iexact H

/-- A copy from slot `k` to the right neighbour's slot `k'`, the next one: it pays the copy's two cells, and leaves the
    credit for the wait on the sending one. -/
theorem hop_send {α : Type} {Q : α → sProp 𝕄} (k k' : Fin 4) (hk : k ≠ 3) (hk' : k'.val = k.val + 1) (K : GSem nD τ sig → ℕ) (c n : Dev nD) (hn : n = nxt c)
    (O : CellTallies nD τ sig Unit) (W : Waits sig Unit)
    {hsc} {hsrc} {hdst} {hsem} {p : PUnit → Prog (TpuEff nD τ sig (Elt F) Λ₀ .tc) α} :
    iprop(invs m K ∗ slot k c (sv m k.val c) ∗ slotAny k' (nxt c)
        ∗ owes (c : Thread nD τ) (O + tallyAt (recvCell k' (nxt c)) () N) W
        ∗ dutyTok ER (sendCell k c) 0 false ∗ reached ER (sendCell k c) 0
        ∗ dutyTok ER (recvCell k' (nxt c)) 0 false ∗ reached ER (recvCell k' (nxt c)) 0)
      ⊢ iprop(((cred (tallyAt (sendCell k c) () N) ∗ owes (c : Thread nD τ) O W) -∗ wpc c (p ⟨⟩) Q)
          -∗ wpc c (.op (.enqueueDma (slotM k) (.remote (Dev.tc n : Thread nD τ) (slotM k') (.dma (sendS k)) hsc)
              (.dma (recvS k')) hsrc hdst hsem) p) Q) := by
  subst hn
  have hk'0 : k' ≠ 0 := fun h => by rw [h] at hk'; simp at hk'
  unfold slotAny slot owns
  iintro ⟨#HI, ⟨%fs, %hfs, Hs⟩, ⟨%X, %fd, -, Hd⟩, HO, HtS, #HrS, HtR, #HrR⟩ Hk
  iapply (Rounds.wp_send_pointsTo 𝒱₀ ER (rd m) (c : Thread nD τ) none (c' := (nxt c : Thread nD τ)) (src := slotM k) (dst := slotM k')
      (sS := .dma (sendS k)) (sem := .dma (recvS k')) (q := fullShare) (fs := fs) (fd := fd)
      (κ₁ := K (sendCell k c)) (κ₂ := K (recvCell k' (nxt c))) (r₁ := 0) (r₂ := 0) (d₁ := false) (d₂ := false)
      (by rw [duties_send m c k hk]; exact Finset.mem_singleton_self _)
      (by rw [duties_recv m (nxt c) k' hk'0]; exact Finset.mem_singleton_self _)
      () () N rfl (amount_send m c k hk false) (amount_recv m (nxt c) k' hk'0 false) O rfl (W := W)
      (by
        rw [payload_send m c k hk]; unfold slot owns
        iintro H; iexists fs
        isplitr; · ipureintro; exact hfs
        iexact H)
      (by
        rw [payload_recv m (nxt c) k' hk'0, hk', sv_nxt]; unfold slot owns
        iintro H; iexists _
        isplitr; · ipureintro; exact (View.read_write_univ fd _).trans hfs
        iexact H)) $$ [Hs Hd HO HtS HtR]
  · isplitr; · iapply (inv_send m K k hk c); iexact HI
    isplitr; · iapply (inv_recv m K k' hk'0 (nxt c)); iexact HI
    isplitl [Hs]; · iexact Hs
    isplitl [Hd]; · iexact Hd
    isplitl [HO]; · iexact HO
    isplitl [HtS]; · iexact HtS
    isplitr; · iexact HrS
    isplitl [HtR]; · iexact HtR
    iexact HrR
  iexact Hk

/-- The wait for slot `k`'s own copy: the slot comes back as it was. -/
theorem send_wait {α : Type} {Q : α → sProp 𝕄} (k : Fin 4) (hk : k ≠ 3) (K : GSem nD τ sig → ℕ) (c : Dev nD) (O : CellTallies nD τ sig Unit) (W : Waits sig Unit)
    {a b : Memref sig .tc .vmem S8x128 .f32} {ha hb} (hN : b.view.dmaCredit = N) {p : PUnit → Prog (TpuEff nD τ sig (Elt F) Λ₀ .tc) α} :
    iprop(invs m K ∗ cred (tallyAt (sendCell k c) () N) ∗ owes (c : Thread nD τ) O W
        ∗ MayWait (c : Thread nD τ) (.dma (sendS k)) () O ∗ atPos ER (sendCell k c) 0 ∅ 0)
      ⊢ iprop(((owes (c : Thread nD τ) O (insert (SemLoc.dma (sendS k), ()) W) ∗ atPos ER (sendCell k c) (0 + 1) ∅ 0
            ∗ slot k c (sv m k.val c)) -∗ wpc c (p ⟨⟩) Q)
          -∗ wpc c (.op (.waitDma2 (sendS k) a b ha hb) p) Q) := by
  iintro ⟨#HI, Hc, HO, HM, Hat⟩ Hk
  iapply (Rounds.wp_wait_rest_token 𝒱₀ ER (rd m) (c : Thread nD τ) none (κ := K (sendCell k c))
      (wpE_waitDma2_eq 𝒱₀ (c : Thread nD τ) none Set.univ) (Set.mem_univ _) () (O := O) (W := W) (R := 0) (m := 0) (T := ∅)
      ((Nat.zero_add _).trans (hN.trans (expect_send m c k hk).symm))) $$ [Hc HO HM Hat]
  · isplitr; · iapply (inv_send m K k hk c); iexact HI
    isplitl [Hc]; · rw [hN]; iexact Hc
    isplitl [HO]; · iexact HO
    isplitl [HM]; · iexact HM
    iexact Hat
  iintro ⟨HO, Hat, -, Hpay⟩
  ihave Hs := (Entails.of_eq (rest_send m c k hk)) $$ Hpay
  iapply Hk
  isplitl [HO]; · iexact HO
  isplitl [Hat]; · iexact Hat
  iexact Hs

/-- The wait for the copy into slot `k`: the slot comes holding the totals of the device `k` to the left. -/
theorem recv_wait {α : Type} {Q : α → sProp 𝕄} (k : Fin 4) (hk : k ≠ 0) (K : GSem nD τ sig → ℕ) (c : Dev nD) (O : CellTallies nD τ sig Unit) (W : Waits sig Unit)
    {a b : Memref sig .tc .vmem S8x128 .f32} {ha hb} (hN : b.view.dmaCredit = N) {p : PUnit → Prog (TpuEff nD τ sig (Elt F) Λ₀ .tc) α} :
    iprop(invs m K ∗ cred (tallyAt (recvCell k c) () N) ∗ owes (c : Thread nD τ) O W
        ∗ MayWait (c : Thread nD τ) (.dma (recvS k)) () O ∗ atPos ER (recvCell k c) 0 ∅ 0)
      ⊢ iprop(((owes (c : Thread nD τ) O (insert (SemLoc.dma (recvS k), ()) W) ∗ atPos ER (recvCell k c) (0 + 1) ∅ 0
            ∗ slot k c (sv m k.val c)) -∗ wpc c (p ⟨⟩) Q)
          -∗ wpc c (.op (.waitDma2 (recvS k) a b ha hb) p) Q) := by
  iintro ⟨#HI, Hc, HO, HM, Hat⟩ Hk
  iapply (Rounds.wp_wait_rest_token 𝒱₀ ER (rd m) (c : Thread nD τ) none (κ := K (recvCell k c))
      (wpE_waitDma2_eq 𝒱₀ (c : Thread nD τ) none Set.univ) (Set.mem_univ _) () (O := O) (W := W) (R := 0) (m := 0) (T := ∅)
      ((Nat.zero_add _).trans (hN.trans (expect_recv m c k hk).symm))) $$ [Hc HO HM Hat]
  · isplitr; · iapply (inv_recv m K k hk c); iexact HI
    isplitl [Hc]; · rw [hN]; iexact Hc
    isplitl [HO]; · iexact HO
    isplitl [HM]; · iexact HM
    iexact Hat
  iintro ⟨HO, Hat, -, Hpay⟩
  ihave Hs := (Entails.of_eq (rest_recv m c k hk)) $$ Hpay
  iapply Hk
  isplitl [HO]; · iexact HO
  isplitl [Hat]; · iexact Hat
  iexact Hs

end Cert.KernelIdeal.Stats
-- ==== Proof.Ideal.Ring.lean ====
/-
  The ring of the first call's last point, hop by hop: the copy out of each slot, its wait, the wait for the left
  neighbour's copy, and the totals after adding what came.
-/
module

public import proofs.«01_k».proof.Proof.Ideal.Steps

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (i : grid0.Coords) (x : Memref sig .tc .vmem S1x64x256x128 .f32) (hx : x.IsWhole) (o : Memref sig .tc .vmem S8x128 .f32)
  (ho : o.IsWhole) (ht : totM.IsWhole) (hm : commM.IsWhole)

set_option maxHeartbeats 1600000 in
/-- The first copy: the device's own totals into slot 0, and from there to the right neighbour's slot 1; slot 0 comes back. -/
theorem part1_run (v9 : BitVec 32) (h : k0_cond4 i = 1#1) (K : GSem nD τ sig → ℕ) (c : Dev nD) (W : Waits sig Unit)
    (Kt : PUnit → sProp 𝕄) :
    iprop((invs m K ∗ levAts L lv ∗ totPt c (part m c) ∗ slotAny 0 c ∗ slotAny 1 (nxt c)
          ∗ owes (c : Thread nD τ) (D3 c) W
          ∗ dutyTok ER (sendCell 0 c) 0 false ∗ reached ER (sendCell 0 c) 0
          ∗ dutyTok ER (recvCell 1 (nxt c)) 0 false ∗ reached ER (recvCell 1 (nxt c)) 0
          ∗ atPos ER (sendCell 0 c) 0 ∅ 0)
        ∗ ((totPt c (part m c) ∗ slot 0 c (sv m 0 c) ∗ atPos ER (sendCell 0 c) (0 + 1) ∅ 0
            ∗ ∃ W', owes (c : Thread nD τ) (D2 c) W') -∗ Kt ⟨⟩))
      ⊢ wpc c (k0_part1 (F := F) i x hx o ho totM ht commM hm cc0_scratch2 cc0_scratch3 c v9 h) Kt := by
  rw [k0_part1_eq_skeleton]
  unfold k0_part1_skel
  simp only [Prog.lift, Prog.bind_op, Prog.bind_ret, Prog.pure_eq_ret]
  iintro ⟨⟨#HI, #Hlev, Ht, ⟨%X, Hs0⟩, Hs1, HO, HtS, #HrS, HtR, #HrR, Hat⟩, Hk⟩
  iapply (tot_load c (part m c) rW) $$ [Ht]
  · iexact Ht
  iintro Ht
  rw [read_tot]
  iapply (slot_load 0 c X) $$ [Hs0]
  · iexact Hs0
  iintro Hs0
  iapply (slot_store 0 c X (part m c)) $$ [Hs0]
  · iexact Hs0
  iintro Hs0
  iapply (hop_send m 0 1 (by decide) rfl K c _ (dev3_eq c _) (D2 c) W) $$ [Hs0 Hs1 HO HtS HtR]
  · isplitr; · iexact HI
    isplitl [Hs0]; · iexact Hs0
    isplitl [Hs1]; · iexact Hs1
    isplitl [HO]; · iexact HO
    isplitl [HtS]; · iexact HtS
    isplitr; · iexact HrS
    isplitl [HtR]; · iexact HtR
    iexact HrR
  iintro ⟨Hc, HO⟩
  iapply (send_wait m 0 (by decide) K c (D2 c) W rfl (b := slotM 0)) $$ [Hc HO Hat]
  · isplitr; · iexact HI
    isplitl [Hc]; · iexact Hc
    isplitl [HO]; · iexact HO
    isplitr; · iapply (mayWait_send0 c); iexact Hlev
    iexact Hat
  iintro ⟨HO, Hat, Hs0⟩
  unfold wpc
  rw [wp_ret]
  imodintro
  iapply Hk
  isplitl [Ht]; · iexact Ht
  isplitl [Hs0]; · iexact Hs0
  isplitl [Hat]; · iexact Hat
  iexists _; iexact HO

set_option maxHeartbeats 1600000 in
/-- Hop 1 lands: what came into slot 1 is added to the totals, and slot 1 is copied on to the right neighbour's slot 2; slot 1 comes back. -/
theorem part2_run (v9 : BitVec 32) (h : k0_cond4 i = 1#1) (K : GSem nD τ sig → ℕ) (c : Dev nD) (W : Waits sig Unit)
    (Kt : PUnit → sProp 𝕄) :
    iprop((invs m K ∗ levAts L lv ∗ totPt c (part m c) ∗ slotAny 2 (nxt c)
          ∗ owes (c : Thread nD τ) (D2 c) W
          ∗ (cred (tallyAt (recvCell 1 c) () N) ∗ atPos ER (recvCell 1 c) 0 ∅ 0)
          ∗ dutyTok ER (sendCell 1 c) 0 false ∗ reached ER (sendCell 1 c) 0
          ∗ dutyTok ER (recvCell 2 (nxt c)) 0 false ∗ reached ER (recvCell 2 (nxt c)) 0
          ∗ atPos ER (sendCell 1 c) 0 ∅ 0)
        ∗ ((totPt c (hop1 m c) ∗ slot 1 c (sv m 1 c) ∗ atPos ER (recvCell 1 c) (0 + 1) ∅ 0
            ∗ atPos ER (sendCell 1 c) (0 + 1) ∅ 0
            ∗ ∃ W', owes (c : Thread nD τ) (D1 c) W') -∗ Kt ⟨⟩))
      ⊢ wpc c (k0_part2 (F := F) i x hx o ho totM ht commM hm cc0_scratch2 cc0_scratch3 c v9 h) Kt := by
  rw [k0_part2_eq_skeleton]
  unfold k0_part2_skel
  simp only [Prog.lift, Prog.bind_op, Prog.bind_ret, Prog.pure_eq_ret]
  iintro ⟨⟨#HI, #Hlev, Ht, Hsn, HO, ⟨HcR, HatR⟩, HtS, #HrS, HtR, #HrR, Hat⟩, Hk⟩
  iapply (recv_wait m 1 (by decide) K c (D2 c) W rfl (b := slotM 1)) $$ [HcR HO HatR]
  · isplitr; · iexact HI
    isplitl [HcR]; · iexact HcR
    isplitl [HO]; · iexact HO
    isplitr; · iapply (mayWait_recv1 c); iexact Hlev
    iexact HatR
  iintro ⟨HO, HatR, Hs⟩
  iapply (tot_load c (part m c) rW) $$ [Ht]
  · iexact Ht
  iintro Ht
  iapply (slot_load 1 c (sv m 1 c)) $$ [Hs]
  · iexact Hs
  iintro Hs
  iapply (tot_load c (part m c) rW) $$ [Ht]
  · iexact Ht
  iintro Ht
  rw [read_tot]
  iapply (tot_store_whole c (part m c) (hop1 m c)) $$ [Ht]
  · iexact Ht
  iintro Ht
  iapply (hop_send m 1 2 (by decide) rfl K c _ (dev4_eq c _) (D1 c) _) $$ [Hs Hsn HO HtS HtR]
  · isplitr; · iexact HI
    isplitl [Hs]; · iexact Hs
    isplitl [Hsn]; · iexact Hsn
    isplitl [HO]; · iexact HO
    isplitl [HtS]; · iexact HtS
    isplitr; · iexact HrS
    isplitl [HtR]; · iexact HtR
    iexact HrR
  iintro ⟨Hc, HO⟩
  iapply (send_wait m 1 (by decide) K c (D1 c) _ rfl (b := slotM 1)) $$ [Hc HO Hat]
  · isplitr; · iexact HI
    isplitl [Hc]; · iexact Hc
    isplitl [HO]; · iexact HO
    isplitr; · iapply (mayWait_send1 c); iexact Hlev
    iexact Hat
  iintro ⟨HO, Hat, Hs⟩
  unfold wpc
  rw [wp_ret]
  imodintro
  iapply Hk
  isplitl [Ht]; · iexact Ht
  isplitl [Hs]; · iexact Hs
  isplitl [HatR]; · iexact HatR
  isplitl [Hat]; · iexact Hat
  iexists _; iexact HO

set_option maxHeartbeats 1600000 in
/-- Hop 2 lands: what came into slot 2 is added to the totals, and slot 2 is copied on to the right neighbour's slot 3, whose wait is still to come. -/
theorem part3_run (v9 : BitVec 32) (h : k0_cond4 i = 1#1) (K : GSem nD τ sig → ℕ) (c : Dev nD) (W : Waits sig Unit)
    (Kt : PUnit → sProp 𝕄) :
    iprop((invs m K ∗ levAts L lv ∗ totPt c (hop1 m c) ∗ slotAny 3 (nxt c)
          ∗ owes (c : Thread nD τ) (D1 c) W
          ∗ (cred (tallyAt (recvCell 2 c) () N) ∗ atPos ER (recvCell 2 c) 0 ∅ 0)
          ∗ dutyTok ER (sendCell 2 c) 0 false ∗ reached ER (sendCell 2 c) 0
          ∗ dutyTok ER (recvCell 3 (nxt c)) 0 false ∗ reached ER (recvCell 3 (nxt c)) 0)
        ∗ ((totPt c (hop2 m c) ∗ cred (tallyAt (sendCell 2 c) () N) ∗ atPos ER (recvCell 2 c) (0 + 1) ∅ 0
            ∗ ∃ W', owes (c : Thread nD τ) 0 W') -∗ Kt ⟨⟩))
      ⊢ wpc c (k0_part3 (F := F) i x hx o ho totM ht commM hm cc0_scratch2 cc0_scratch3 c v9 h) Kt := by
  rw [k0_part3_eq_skeleton]
  unfold k0_part3_skel
  simp only [Prog.lift, Prog.bind_op, Prog.bind_ret, Prog.pure_eq_ret]
  iintro ⟨⟨#HI, #Hlev, Ht, Hsn, HO, ⟨HcR, HatR⟩, HtS, #HrS, HtR, #HrR⟩, Hk⟩
  iapply (recv_wait m 2 (by decide) K c (D1 c) W rfl (b := slotM 2)) $$ [HcR HO HatR]
  · isplitr; · iexact HI
    isplitl [HcR]; · iexact HcR
    isplitl [HO]; · iexact HO
    isplitr; · iapply (mayWait_recv2 c); iexact Hlev
    iexact HatR
  iintro ⟨HO, HatR, Hs⟩
  iapply (tot_load c (hop1 m c) rW) $$ [Ht]
  · iexact Ht
  iintro Ht
  iapply (slot_load 2 c (sv m 2 c)) $$ [Hs]
  · iexact Hs
  iintro Hs
  iapply (tot_load c (hop1 m c) rW) $$ [Ht]
  · iexact Ht
  iintro Ht
  rw [read_tot]
  iapply (tot_store_whole c (hop1 m c) (hop2 m c)) $$ [Ht]
  · iexact Ht
  iintro Ht
  iapply (hop_send m 2 3 (by decide) rfl K c _ (dev5_eq c _) 0 _) $$ [Hs Hsn HO HtS HtR]
  · isplitr; · iexact HI
    isplitl [Hs]; · iexact Hs
    isplitl [Hsn]; · iexact Hsn
    isplitl [HO]; · rw [zero_add]; iexact HO
    isplitl [HtS]; · iexact HtS
    isplitr; · iexact HrS
    isplitl [HtR]; · iexact HtR
    iexact HrR
  iintro ⟨Hc, HO⟩
  unfold wpc
  rw [wp_ret]
  imodintro
  iapply Hk
  isplitl [Ht]; · iexact Ht
  isplitl [Hc]; · iexact Hc
  isplitl [HatR]; · iexact HatR
  iexists _; iexact HO

set_option maxHeartbeats 1600000 in
/-- The last hop lands: slot 2 comes back, what came into slot 3 is added to the totals, and the two blocks of results
    are computed from the ring's totals. -/
theorem part4_run (v9 : BitVec 32) (K : GSem nD τ sig → ℕ) (c : Dev nD) (W : Waits sig Unit)
    (Kt : (Σ' (_ : FVec F S2x128 .f32), FVec F S2x128 .f32) → sProp 𝕄) :
    iprop((invs m K ∗ totPt c (hop2 m c) ∗ owes (c : Thread nD τ) 0 W
          ∗ (cred (tallyAt (sendCell 2 c) () N) ∗ atPos ER (sendCell 2 c) 0 ∅ 0)
          ∗ (cred (tallyAt (recvCell 3 c) () N) ∗ atPos ER (recvCell 3 c) 0 ∅ 0))
        ∗ ((totPt c (hop3 m c) ∗ (slot 2 c (sv m 2 c) ∗ slot 3 c (sv m 3 c)) ∗ atPos ER (sendCell 2 c) (0 + 1) ∅ 0
            ∗ atPos ER (recvCell 3 c) (0 + 1) ∅ 0
            ∗ ∃ W', owes (c : Thread nD τ) (0 : CellTallies nD τ sig Unit) W')
          -∗ Kt ⟨k0_pay5 (hop3 m c), k0_pay6 (hop3 m c)⟩))
      ⊢ wpc c (k0_part4 (F := F) i x hx o ho totM ht commM hm cc0_scratch2 cc0_scratch3 v9) Kt := by
  rw [k0_part4_eq_skeleton]
  unfold k0_part4_skel
  simp only [Prog.lift, Prog.bind_op, Prog.bind_ret, Prog.pure_eq_ret]
  iintro ⟨⟨#HI, Ht, HO, ⟨HcS, HatS⟩, HcR, HatR⟩, Hk⟩
  iapply (send_wait m 2 (by decide) K c 0 W rfl (b := slotM 2)) $$ [HcS HO HatS]
  · isplitr; · iexact HI
    isplitl [HcS]; · iexact HcS
    isplitl [HO]; · iexact HO
    isplitr; · rw [MayWait_zero]; iempintro
    iexact HatS
  iintro ⟨HO, HatS, Hs2⟩
  iapply (recv_wait m 3 (by decide) K c 0 _ rfl (b := slotM 3)) $$ [HcR HO HatR]
  · isplitr; · iexact HI
    isplitl [HcR]; · iexact HcR
    isplitl [HO]; · iexact HO
    isplitr; · rw [MayWait_zero]; iempintro
    iexact HatR
  iintro ⟨HO, HatR, Hs3⟩
  iapply (tot_load c (hop2 m c) rW) $$ [Ht]
  · iexact Ht
  iintro Ht
  iapply (slot_load 3 c (sv m 3 c)) $$ [Hs3]
  · iexact Hs3
  iintro Hs3
  iapply (tot_load c (hop2 m c) rW) $$ [Ht]
  · iexact Ht
  iintro Ht
  rw [read_tot]
  iapply (tot_store_whole c (hop2 m c) (hop3 m c)) $$ [Ht]
  · iexact Ht
  iintro Ht
  iapply (tot_load c (hop3 m c) rW) $$ [Ht]
  · iexact Ht
  iintro Ht
  rw [read_tot]
  unfold wpc
  rw [wp_ret]
  imodintro
  iapply Hk
  isplitl [Ht]; · iexact Ht
  isplitl [Hs2 Hs3]
  · isplitl [Hs2]; · iexact Hs2
    iexact Hs3
  isplitl [HatS]; · iexact HatS
  isplitl [HatR]; · iexact HatR
  iexists _; iexact HO

end Cert.KernelIdeal.Stats
-- ==== Proof.Ideal.Body.lean ====
/-
  The first call's body at its points, in four cases: the first point (the barrier, and a block of the first image), a
  later point of the first image, a point of the second, and the last point (a block of the second image, the ring, the
  result).
-/
module

public import proofs.«01_k».proof.Proof.Ideal.Ring

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Whether the point's block is of the first image, and of the second. -/
abbrev isB0 (i : grid0.Coords) : BitVec 1 :=
  Scalar.cmpi .ne (Scalar.extui (Scalar.cmpi .eq (BitVec.ofNat 32 (i 0).val) 0#32) : BitVec 32) 0#32
abbrev isB1 (i : grid0.Coords) : BitVec 1 :=
  Scalar.cmpi .ne (Scalar.extui (Scalar.cmpi .eq (BitVec.ofNat 32 (i 0).val) 1#32) : BitVec 32) 0#32

variable (i : grid0.Coords) (x : Memref sig .tc .vmem S1x64x256x128 .f32) (hx : x.IsWhole) (o : Memref sig .tc .vmem S8x128 .f32)
  (ho : o.IsWhole) (ht : totM.IsWhole) (hm : commM.IsWhole)

/-- The whole of a block of the operand. -/
abbrev rX : Rect S1x64x256x128 :=
  Rect.unit (s := S1x64x256x128) ![0, 0, 0, 0] S1x64x256x128.size inb_S1x64x256x128_S1x64x256x128_0_0_0_0

omit [FloatOps F] in
theorem readAt_block (f : x.view.ty.Contents (Elt F)) :
    x.view.readAt (Elt F) rX.toLoadRect f = x.view.read (Elt F) f := by
  funext j
  show x.view.read (Elt F) f _ = _
  congr 1
  funext a
  apply Fin.ext
  show (![0, 0, 0, 0] : Fin 4 → ℕ) a + 1 * (j a).val = (j a).val
  rw [show (![0, 0, 0, 0] : Fin 4 → ℕ) a = 0 from by fin_cases a <;> rfl]
  omega

/-- The load of the operand's block. -/
theorem block_load {α : Type} {Q : α → sProp 𝕄} (c : Dev nD) (X : Vec F S1x64x256x128 .f32) {hl : x.view.LoadsAt rX.toLoadRect}
    {k : (rX.shape.Idx → Elt F .f32) → Prog (TpuEff nD τ sig (Elt F) Λ₀ .tc) α} :
    (owns (c : Thread nD τ) x fullShare X : sProp 𝕄) ⊢ iprop((owns (c : Thread nD τ) x fullShare X -∗ wpc c (k X) Q)
      -∗ wpc c (.op (.load x rX.toLoadRect hl) k) Q) := by
  unfold owns
  iintro ⟨%f, %hf, H⟩ Hk
  iapply (wp_load 𝒱₀ (c : Thread nD τ) none Set.univ (m := x) (r := rX.toLoadRect) (S := x.view.set) (f := f)
    (View.setOn_subset_set _ _)) $$ [H]
  · iexact H
  iintro H
  rw [readAt_block x f, hf]
  iapply Hk
  iexists f
  isplitr; · ipureintro; exact hf
  iexact H

set_option maxHeartbeats 1600000 in
/-- A later point of the first image: its block is added to the totals. -/
theorem b0_run (h1 : ¬ k0_cond1 i = 1#1) (h2 : isB0 i = 1#1) (h3 : ¬ isB1 i = 1#1) (h4 : ¬ k0_cond4 i = 1#1)
    (c : Dev nD) (X : Vec F S1x64x256x128 .f32) (f : Vec F S8x128 .f32) (Kt : PUnit → sProp 𝕄) :
    iprop((totPt c f ∗ owns (c : Thread nD τ) x fullShare X)
        ∗ ((totPt c (acc0 X f) ∗ owns (c : Thread nD τ) x fullShare X) -∗ Kt ⟨⟩))
      ⊢ wpc c (cc0__stats_body (F := F) i x hx o ho totM ht commM hm cc0_scratch2 cc0_scratch3) Kt := by
  rw [cc0__stats_body_eq_skeleton]
  unfold cc0__stats_body_skel
  rw [k0_part5_eq_skeleton]
  unfold k0_part5_skel
  simp only [Prog.lift, Prog.bind_op, Prog.bind_ret, Prog.pure_eq_ret, wp_deviceId, dif_neg h1, dif_pos h2, dif_neg h3, dif_neg h4]
  iintro ⟨⟨Ht, Hx⟩, Hk⟩
  iapply (block_load x c X) $$ [Hx]
  · iexact Hx
  iintro Hx
  iapply (tot_load c f r0) $$ [Ht]
  · iexact Ht
  iintro Ht
  iapply (tot_load c f r0) $$ [Ht]
  · iexact Ht
  iintro Ht
  iapply (tot_store c f r0 _) $$ [Ht]
  · iexact Ht
  iintro Ht
  iapply (tot_load c _ r2) $$ [Ht]
  · iexact Ht
  iintro Ht
  iapply (tot_load c _ r2) $$ [Ht]
  · iexact Ht
  iintro Ht
  iapply (tot_store c _ r2 _) $$ [Ht]
  · iexact Ht
  iintro Ht
  unfold wpc
  rw [wp_ret]
  imodintro
  iapply Hk
  isplitl [Ht]; · unfold acc0; iexact Ht
  iexact Hx

set_option maxHeartbeats 1600000 in
/-- A point of the second image before the last: its block is added to the totals. -/
theorem b1_run (h1 : ¬ k0_cond1 i = 1#1) (h2 : ¬ isB0 i = 1#1) (h3 : isB1 i = 1#1) (h4 : ¬ k0_cond4 i = 1#1)
    (c : Dev nD) (X : Vec F S1x64x256x128 .f32) (f : Vec F S8x128 .f32) (Kt : PUnit → sProp 𝕄) :
    iprop((totPt c f ∗ owns (c : Thread nD τ) x fullShare X)
        ∗ ((totPt c (acc1 X f) ∗ owns (c : Thread nD τ) x fullShare X) -∗ Kt ⟨⟩))
      ⊢ wpc c (cc0__stats_body (F := F) i x hx o ho totM ht commM hm cc0_scratch2 cc0_scratch3) Kt := by
  rw [cc0__stats_body_eq_skeleton]
  unfold cc0__stats_body_skel
  rw [k0_part5_eq_skeleton]
  unfold k0_part5_skel
  simp only [Prog.lift, Prog.bind_op, Prog.bind_ret, Prog.pure_eq_ret, wp_deviceId, dif_neg h1, dif_neg h2, dif_pos h3, dif_neg h4]
  iintro ⟨⟨Ht, Hx⟩, Hk⟩
  iapply (block_load x c X) $$ [Hx]
  · iexact Hx
  iintro Hx
  iapply (tot_load c f r1) $$ [Ht]
  · iexact Ht
  iintro Ht
  iapply (tot_load c f r1) $$ [Ht]
  · iexact Ht
  iintro Ht
  iapply (tot_store c f r1 _) $$ [Ht]
  · iexact Ht
  iintro Ht
  iapply (tot_load c _ r3) $$ [Ht]
  · iexact Ht
  iintro Ht
  iapply (tot_load c _ r3) $$ [Ht]
  · iexact Ht
  iintro Ht
  iapply (tot_store c _ r3 _) $$ [Ht]
  · iexact Ht
  iintro Ht
  unfold wpc
  rw [wp_ret]
  imodintro
  iapply Hk
  isplitl [Ht]; · unfold acc1; iexact Ht
  iexact Hx

/-- A signal to the left neighbour's barrier cell: it hands over the device's own slots 1, 2, 3 and that it has entered. -/
theorem signal_left {α : Type} {Q : α → sProp 𝕄} (K : GSem nD τ sig → ℕ) (c n : Dev nD) (hn : n = prv c) (O : CellTallies nD τ sig Unit)
    (W : Waits sig Unit) {p : PUnit → Prog (TpuEff nD τ sig (Elt F) Λ₀ .tc) α} :
    iprop(invs m K ∗ owes (c : Thread nD τ) (O + tallyAt (barCell (prv c)) () 1) W
        ∗ dutyTok ER (barCell (prv c)) 0 true ∗ reached ER (barCell (prv c)) 0
        ∗ (slotAny 1 c ∗ slotAny 2 c ∗ slotAny 3 c)
        ∗ reached ER (recvCell 1 c) 0 ∗ reached ER (recvCell 2 c) 0 ∗ reached ER (recvCell 3 c) 0)
      ⊢ iprop((owes (c : Thread nD τ) O W -∗ wpc c (p ⟨⟩) Q)
        -∗ wpc c (.op (.semSignal (Dev.tc n : Thread nD τ) barS 1) p) Q) := by
  subst hn
  iintro ⟨#HI, HO, Ht, #Hr, Hs, #Hv⟩ Hk
  iapply (Rounds.wp_signal 𝒱₀ ER (rd m) (c : Thread nD τ) none (dst := (prv c : Thread nD τ)) (sem := barS) (r := 0) (d := true)
      (κ := K (barCell (prv c))) (by rw [duties_bar]; exact Finset.mem_univ _) (amount_bar m (prv c) true) () O rfl) $$ [HO Ht Hs]
  · isplitr; · iapply (inv_bar m K (prv c)); iexact HI
    isplitl [HO]; · iexact HO
    isplitl [Ht]; · iexact Ht
    isplitl [Hs]
    · rw [payload_bar_true]; unfold barPay; rw [nxt_prv]
      isplitl [Hs]; · iexact Hs
      iexact Hv
    · iexact Hr
  iexact Hk

/-- A signal to the right neighbour's barrier cell: it hands over nothing. -/
theorem signal_right {α : Type} {Q : α → sProp 𝕄} (K : GSem nD τ sig → ℕ) (c n : Dev nD) (hn : n = nxt c) (O : CellTallies nD τ sig Unit)
    (W : Waits sig Unit) {p : PUnit → Prog (TpuEff nD τ sig (Elt F) Λ₀ .tc) α} :
    iprop(invs m K ∗ owes (c : Thread nD τ) (O + tallyAt (barCell (nxt c)) () 1) W
        ∗ dutyTok ER (barCell (nxt c)) 0 false ∗ reached ER (barCell (nxt c)) 0)
      ⊢ iprop((owes (c : Thread nD τ) O W -∗ wpc c (p ⟨⟩) Q)
        -∗ wpc c (.op (.semSignal (Dev.tc n : Thread nD τ) barS 1) p) Q) := by
  subst hn
  iintro ⟨#HI, HO, Ht, #Hr⟩ Hk
  iapply (Rounds.wp_signal 𝒱₀ ER (rd m) (c : Thread nD τ) none (dst := (nxt c : Thread nD τ)) (sem := barS) (r := 0) (d := false)
      (κ := K (barCell (nxt c))) (by rw [duties_bar]; exact Finset.mem_univ _) (amount_bar m (nxt c) false) () O rfl) $$ [HO Ht]
  · isplitr; · iapply (inv_bar m K (nxt c)); iexact HI
    isplitl [HO]; · iexact HO
    isplitl [Ht]; · iexact Ht
    isplitr
    · rw [payload_bar_false]; iempintro
    · iexact Hr
  iexact Hk

/-- The wait for both neighbours: the right one's slots come. -/
theorem bar_wait {α : Type} {Q : α → sProp 𝕄} (K : GSem nD τ sig → ℕ) (c : Dev nD) (W : Waits sig Unit)
    {p : PUnit → Prog (TpuEff nD τ sig (Elt F) Λ₀ .tc) α} :
    iprop(invs m K ∗ levAts L lv ∗ cred (tallyAt (barCell c) () 2) ∗ owes (c : Thread nD τ) (D3 c) W ∗ atPos ER (barCell c) 0 ∅ 0)
      ⊢ iprop(((owes (c : Thread nD τ) (D3 c) (insert (SemLoc.reg barS, ()) W) ∗ atPos ER (barCell c) (0 + 1) ∅ 0 ∗ barPay c)
          -∗ wpc c (p ⟨⟩) Q)
        -∗ wpc c (.op (.semWait barS 2) p) Q) := by
  iintro ⟨#HI, #Hlev, Hc, HO, Hat⟩ Hk
  iapply (Rounds.wp_wait_rest_token 𝒱₀ ER (rd m) (c : Thread nD τ) none (κ := K (barCell c))
      (wpE_semWait_eq 𝒱₀ (c : Thread nD τ) none Set.univ) (Set.mem_univ _) () (O := D3 c) (W := W) (R := 0) (m := 0) (T := ∅)
      ((Nat.zero_add 2).trans (expect_bar m c).symm)) $$ [Hc HO Hat]
  · isplitr; · iapply (inv_bar m K c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨Hp, -⟩
  iapply Hk
  isplitl [HO]; · iexact HO
  isplitl [Hat]; · iexact Hat
  iexact Hp

set_option maxHeartbeats 1600000 in
/-- The first point: the totals are cleared, both neighbours signalled and waited for, and the first block added. -/
theorem first_run (h1 : k0_cond1 i = 1#1) (h2 : isB0 i = 1#1) (h3 : ¬ isB1 i = 1#1) (h4 : ¬ k0_cond4 i = 1#1)
    (K : GSem nD τ sig → ℕ) (c : Dev nD) (W : Waits sig Unit)
    (X : Vec F S1x64x256x128 .f32) (f : Vec F S8x128 .f32) (Kt : PUnit → sProp 𝕄) :
    iprop((invs m K ∗ levAts L lv ∗ barGhost c ∗ totPt c f ∗ (slotAny 0 c ∗ slotAny 1 c ∗ slotAny 2 c ∗ slotAny 3 c)
          ∗ owns (c : Thread nD τ) x fullShare X ∗ owes (c : Thread nD τ) (O₀ c) W)
        ∗ ((totPt c (acc0 X (k0_pay7 (F := F))) ∗ ready c ∗ semVal (barCell c) 0 ∗ owns (c : Thread nD τ) x fullShare X
            ∗ ∃ W', owes (c : Thread nD τ) (D3 c) W') -∗ Kt ⟨⟩))
      ⊢ wpc c (cc0__stats_body (F := F) i x hx o ho totM ht commM hm cc0_scratch2 cc0_scratch3) Kt := by
  rw [cc0__stats_body_eq_skeleton]
  unfold cc0__stats_body_skel
  rw [k0_part5_eq_skeleton]
  unfold k0_part5_skel
  simp only [semSignalWord, semWaitWord, Prog.lift, Prog.bind_op, Prog.bind_ret, Prog.pure_eq_ret, wp_deviceId, dif_pos h1, dif_pos h2, dif_neg h3,
    dif_neg h4]
  unfold barGhost O₀
  iintro ⟨⟨#HI, #Hlev, ⟨Hat, #Hv, ⟨#HrP, #HrN⟩, ⟨HtP, HtN⟩, Hc⟩, Ht, ⟨Hs0, Hs⟩, Hx, HO⟩, Hk⟩
  iapply (tot_load c f rW) $$ [Ht]
  · iexact Ht
  iintro Ht
  iapply (tot_store_whole c f _) $$ [Ht]
  · iexact Ht
  iintro Ht
  iapply (signal_left m K c _ (dev1_eq c _) (D3 c + tallyAt (barCell (nxt c)) () 1) W) $$ [HO HtP Hs]
  · isplitr; · iexact HI
    isplitl [HO]; · iexact HO
    isplitl [HtP]; · iexact HtP
    isplitr; · iexact HrP
    isplitl [Hs]; · iexact Hs
    iexact Hv
  iintro HO
  iapply (signal_right m K c _ (dev2_eq c _) (D3 c) W) $$ [HO HtN]
  · isplitr; · iexact HI
    isplitl [HO]; · iexact HO
    isplitl [HtN]; · iexact HtN
    iexact HrN
  iintro HO
  iapply (bar_wait m K c W) $$ [HO Hc Hat]
  · isplitr; · iexact HI
    isplitr; · iexact Hlev
    isplitl [Hc]; · iexact Hc
    isplitl [HO]; · iexact HO
    iexact Hat
  iintro ⟨HO, Hat, Hp⟩
  iapply (block_load x c X) $$ [Hx]
  · iexact Hx
  iintro Hx
  iapply (tot_load c _ r0) $$ [Ht]
  · iexact Ht
  iintro Ht
  iapply (tot_load c _ r0) $$ [Ht]
  · iexact Ht
  iintro Ht
  iapply (tot_store c _ r0 _) $$ [Ht]
  · iexact Ht
  iintro Ht
  iapply (tot_load c _ r2) $$ [Ht]
  · iexact Ht
  iintro Ht
  iapply (tot_load c _ r2) $$ [Ht]
  · iexact Ht
  iintro Ht
  iapply (tot_store c _ r2 _) $$ [Ht]
  · iexact Ht
  iintro Ht
  unfold wpc
  rw [wp_ret]
  imod (close m (K (barCell c)) (barCell c)) $$ [Hat] with Hb
  · isplitr; · iapply (inv_bar m K c); iexact HI
    iexact Hat
  imodintro
  iapply Hk
  isplitl [Ht]; · unfold acc0; iexact Ht
  isplitl [Hp Hs0]
  · unfold ready barPay
    icases Hp with ⟨Hp, #Hq⟩
    isplitl [Hs0]; · iexact Hs0
    isplitl [Hp]; · iexact Hp
    iexact Hq
  isplitl [Hb]; · iexact Hb
  isplitl [Hx]; · iexact Hx
  iexists _; iexact HO

/-- A load from the result's buffer, and a store to it. -/
theorem out_load {α : Type} {Q : α → sProp 𝕄} (c : Dev nD) (f : Buf (Elt F) (o.view.loc (c : Thread nD τ))) (r : Rect S8x128)
    {hl : o.view.LoadsAt r.toLoadRect} {k : (r.shape.Idx → Elt F .f32) → Prog (TpuEff nD τ sig (Elt F) Λ₀ .tc) α} :
    (o.view.loc (c : Thread nD τ) ↦[o.view.set]{fullShare} f)
      ⊢ iprop(((o.view.loc (c : Thread nD τ) ↦[o.view.set]{fullShare} f) -∗ wpc c (k (o.view.readAt (Elt F) r.toLoadRect f)) Q)
        -∗ wpc c (.op (.load o r.toLoadRect hl) k) Q) :=
  wp_load 𝒱₀ (c : Thread nD τ) none Set.univ (m := o) (r := r.toLoadRect) (S := o.view.set) (f := f) (View.setOn_subset_set _ _)
theorem out_store {α : Type} {Q : α → sProp 𝕄} (c : Dev nD) (f : o.view.ty.Contents (Elt F)) (L : List (View.Piece (Elt F) S8x128 .f32))
    (r : Rect S8x128) (w : r.shape.Idx → Elt F .f32)
    {hx : (o.access r).Stores Finset.univ} {hm : (Finset.univ : Finset r.shape.Idx) = Finset.univ ∨ ∀ a, r.stride a = 1}
    {k : PUnit → Prog (TpuEff nD τ sig (Elt F) Λ₀ .tc) α} :
    (o.view.loc (c : Thread nD τ) ↦[o.view.set]{fullShare} (o.view.writes (Elt F) f L))
      ⊢ iprop(((o.view.loc (c : Thread nD τ) ↦[o.view.set]{fullShare} (o.view.writes (Elt F) f (⟨r, w⟩ :: L))) -∗ wpc c (k ⟨⟩) Q)
        -∗ wpc c (.op (.store o r w Finset.univ hx hm) k) Q) :=
  wp_store 𝒱₀ (c : Thread nD τ) none Set.univ (m := o) (r := r) (w := w) (Mk := Finset.univ) (hx := hx) (hm := hm)
    (S := o.view.set) (f := o.view.writes (Elt F) f L) ((View.setOn_subset_set _ _).trans (View.set_slice_subset _ _))

set_option maxHeartbeats 3200000 in
/-- The last point: the last block is added, the totals travel round the ring, and the result is written. -/
theorem last_run (h1 : ¬ k0_cond1 i = 1#1) (h2 : ¬ isB0 i = 1#1) (h3 : isB1 i = 1#1) (h4 : k0_cond4 i = 1#1)
    (K : GSem nD τ sig → ℕ) (c : Dev nD) (W : Waits sig Unit)
    (X : Vec F S1x64x256x128 .f32) (f : Vec F S8x128 .f32) (hf : acc1 X f = part m c) (Kt : PUnit → sProp 𝕄) :
    iprop((ringGhost m K c ∗ ready c ∗ totPt c f
          ∗ owns (c : Thread nD τ) x fullShare X ∗ (∃ Y : Vec F S8x128 .f32, owns (c : Thread nD τ) o fullShare Y)
          ∗ owes (c : Thread nD τ) (D3 c) W)
        ∗ ((totPt c (hop3 m c) ∗ (slotAny 0 c ∗ slotAny 1 c ∗ slotAny 2 c ∗ slotAny 3 c) ∗ closed c
            ∗ owns (c : Thread nD τ) x fullShare X ∗ owns (c : Thread nD τ) o fullShare (stat m c)
            ∗ ∃ W', owes (c : Thread nD τ) (0 : CellTallies nD τ sig Unit) W') -∗ Kt ⟨⟩))
      ⊢ wpc c (cc0__stats_body (F := F) i x hx o ho totM ht commM hm cc0_scratch2 cc0_scratch3) Kt := by
  rw [cc0__stats_body_eq_skeleton]
  unfold cc0__stats_body_skel
  rw [k0_part5_eq_skeleton]
  unfold k0_part5_skel
  simp only [Prog.lift, Prog.bind_op, Prog.bind_ret, Prog.pure_eq_ret, wp_deviceId, dif_neg h1, dif_neg h2, dif_pos h3, dif_pos h4, Prog.bind_assoc,
    wp_bind]
  unfold ringGhost ready
  iintro ⟨⟨⟨#HI, ⟨HatS0, HatS1, HatS2⟩, ⟨HatR1, HatR2, HatR3⟩, ⟨#HrS0, #HrS1, #HrS2⟩, ⟨HtS0, HtS1, HtS2⟩, ⟨HtR1, HtR2, HtR3⟩,
      ⟨HcR1, HcR2, HcR3⟩, #Hlev⟩, ⟨Hs0, ⟨Hn1, Hn2, Hn3⟩, ⟨#HrR1, #HrR2, #HrR3⟩⟩, Ht, Hx, ⟨%Y, Ho⟩, HO⟩, Hk⟩
  iapply (block_load x c X) $$ [Hx]
  · iexact Hx
  iintro Hx
  iapply (tot_load c f r1) $$ [Ht]
  · iexact Ht
  iintro Ht
  iapply (tot_load c f r1) $$ [Ht]
  · iexact Ht
  iintro Ht
  iapply (tot_store c f r1 _) $$ [Ht]
  · iexact Ht
  iintro Ht
  iapply (tot_load c _ r3) $$ [Ht]
  · iexact Ht
  iintro Ht
  iapply (tot_load c _ r3) $$ [Ht]
  · iexact Ht
  iintro Ht
  iapply (tot_store c _ r3 _) $$ [Ht]
  · iexact Ht
  iintro Ht
  unfold acc1 at hf
  rw [hf]
  unfold wpc
  simp only [wp_bind]
  iapply (part1_run m i x hx o ho ht hm _ h4 K c W _)
  isplitl [Ht Hs0 Hn1 HO HtS0 HtR1 HatS0]
  · isplitr; · iexact HI
    isplitr; · iexact Hlev
    isplitl [Ht]; · iexact Ht
    isplitl [Hs0]; · iexact Hs0
    isplitl [Hn1]; · iexact Hn1
    isplitl [HO]; · iexact HO
    isplitl [HtS0]; · iexact HtS0
    isplitr; · iexact HrS0
    isplitl [HtR1]; · iexact HtR1
    isplitr; · iexact HrR1
    iexact HatS0
  iintro ⟨Ht, Hs0, HatS0, ⟨%W1, HO⟩⟩
  iapply (part2_run m i x hx o ho ht hm _ h4 K c W1 _)
  isplitl [Ht Hn2 HO HcR1 HatR1 HtS1 HtR2 HatS1]
  · isplitr; · iexact HI
    isplitr; · iexact Hlev
    isplitl [Ht]; · iexact Ht
    isplitl [Hn2]; · iexact Hn2
    isplitl [HO]; · iexact HO
    isplitl [HcR1 HatR1]
    · isplitl [HcR1]; · iexact HcR1
      iexact HatR1
    isplitl [HtS1]; · iexact HtS1
    isplitr; · iexact HrS1
    isplitl [HtR2]; · iexact HtR2
    isplitr; · iexact HrR2
    iexact HatS1
  iintro ⟨Ht, Hs1, HatR1, HatS1, ⟨%W2, HO⟩⟩
  iapply (part3_run m i x hx o ho ht hm _ h4 K c W2 _)
  isplitl [Ht Hn3 HO HcR2 HatR2 HtS2 HtR3]
  · isplitr; · iexact HI
    isplitr; · iexact Hlev
    isplitl [Ht]; · iexact Ht
    isplitl [Hn3]; · iexact Hn3
    isplitl [HO]; · iexact HO
    isplitl [HcR2 HatR2]
    · isplitl [HcR2]; · iexact HcR2
      iexact HatR2
    isplitl [HtS2]; · iexact HtS2
    isplitr; · iexact HrS2
    isplitl [HtR3]; · iexact HtR3
    iexact HrR3
  iintro ⟨Ht, HcS2, HatR2, ⟨%W3, HO⟩⟩
  iapply (part4_run m i x hx o ho ht hm _ K c W3 _)
  isplitl [Ht HO HcS2 HatS2 HcR3 HatR3]
  · isplitr; · iexact HI
    isplitl [Ht]; · iexact Ht
    isplitl [HO]; · iexact HO
    isplitl [HcS2 HatS2]
    · isplitl [HcS2]; · iexact HcS2
      iexact HatS2
    isplitl [HcR3]; · iexact HcR3
    iexact HatR3
  iintro ⟨Ht, ⟨Hs2, Hs3⟩, HatS2, HatR3, ⟨%W4, HO⟩⟩
  unfold owns
  icases Ho with ⟨%g, -, Ho⟩
  iapply (out_load o c g q0) $$ [Ho]
  · iexact Ho
  iintro Ho
  iapply (out_store o c g [] q0 _) $$ [Ho]
  · iexact Ho
  iintro Ho
  iapply (out_load o c _ q2) $$ [Ho]
  · iexact Ho
  iintro Ho
  iapply (out_store o c g _ q2 _) $$ [Ho]
  · iexact Ho
  iintro Ho
  iapply (out_load o c _ q4) $$ [Ho]
  · iexact Ho
  iintro Ho
  iapply (out_store o c g _ q4 _) $$ [Ho]
  · iexact Ho
  iintro Ho
  unfold wpc
  rw [wp_ret]
  imod (close m (K (sendCell 0 c)) (sendCell 0 c)) $$ [HatS0] with HS0
  · isplitr; · iapply (inv_send m K 0 (by decide) c); iexact HI
    iexact HatS0
  imod (close m (K (sendCell 1 c)) (sendCell 1 c)) $$ [HatS1] with HS1
  · isplitr; · iapply (inv_send m K 1 (by decide) c); iexact HI
    iexact HatS1
  imod (close m (K (sendCell 2 c)) (sendCell 2 c)) $$ [HatS2] with HS2
  · isplitr; · iapply (inv_send m K 2 (by decide) c); iexact HI
    iexact HatS2
  imod (close m (K (recvCell 1 c)) (recvCell 1 c)) $$ [HatR1] with HR1
  · isplitr; · iapply (inv_recv m K 1 (by decide) c); iexact HI
    iexact HatR1
  imod (close m (K (recvCell 2 c)) (recvCell 2 c)) $$ [HatR2] with HR2
  · isplitr; · iapply (inv_recv m K 2 (by decide) c); iexact HI
    iexact HatR2
  imod (close m (K (recvCell 3 c)) (recvCell 3 c)) $$ [HatR3] with HR3
  · isplitr; · iapply (inv_recv m K 3 (by decide) c); iexact HI
    iexact HatR3
  imodintro
  iapply Hk
  isplitl [Ht]; · iexact Ht
  isplitl [Hs0 Hs1 Hs2 Hs3]
  · isplitl [Hs0]; · iexists _; iexact Hs0
    isplitl [Hs1]; · iexists _; iexact Hs1
    isplitl [Hs2]; · iexists _; iexact Hs2
    iexists _; iexact Hs3
  isplitl [HS0 HS1 HS2 HR1 HR2 HR3]
  · unfold closed
    isplitl [HS0 HS1 HS2]
    · isplitl [HS0]; · iexact HS0
      isplitl [HS1]; · iexact HS1
      iexact HS2
    isplitl [HR1]; · iexact HR1
    isplitl [HR2]; · iexact HR2
    iexact HR3
  isplitl [Hx]; · iexact Hx
  isplitl [Ho]
  · iexists (o.view.writes (Elt F) g (outPieces (hop3 m c)))
    isplitr; · ipureintro; exact read_out o g _ _ _ (k0_pay7 (F := F))
    iexact Ho
  iexists _; iexact HO

end Cert.KernelIdeal.Stats
-- ==== Proof.Ideal.Region0.lean ====
/-
  The first call as a region of the program: what it holds between its points, its body's obligation at every point, and
  its record, entered with the protocol's rights and left with its counters at zero.
-/
module

public import proofs.«01_k».proof.Proof.Ideal.Body
public import Idealize.ShloMosaic.Lib.Pipeline.FrameBody

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ)

/-! ## The conditions at the points -/

theorem cond1_iff : ∀ t : Fin grid0.N, k0_cond1 (grid0.coords t) = 1#1 ↔ t.val = 0 := by decide
theorem isB0_iff : ∀ t : Fin grid0.N, isB0 (grid0.coords t) = 1#1 ↔ t.val < 4 := by decide
theorem isB1_iff : ∀ t : Fin grid0.N, isB1 (grid0.coords t) = 1#1 ↔ 4 ≤ t.val := by decide
theorem cond4_iff : ∀ t : Fin grid0.N, k0_cond4 (grid0.coords t) = 1#1 ↔ t.val = 7 := by decide

/-! ## The four slots and their buffer -/

/-- The slots' buffer at anything. -/
abbrev commAny (c : Dev nD) : sProp 𝕄 :=
  iprop(∃ f : Buf (Elt F) ((c : Thread nD τ).loc cc0_scratch1), ((c : Thread nD τ).loc cc0_scratch1) ↦{fullShare} f)
/-- The totals' buffer at anything. -/
abbrev totAny (c : Dev nD) : sProp 𝕄 :=
  iprop(∃ f : Buf (Elt F) ((c : Thread nD τ).loc cc0_scratch0), ((c : Thread nD τ).loc cc0_scratch0) ↦{fullShare} f)

abbrev slotSet (k : Fin 4) : Finset S4x8x128.Idx := (slotR k).set
omit [FloatOps F] in
theorem slotSet_disj : ∀ b b' : Fin 4, b ≠ b' → Disjoint (slotSet b) (slotSet b') :=
  Ring.lead_disjoint (s := S4x8x128) 0 1 (fun k : Fin 4 => ![k.val, 0, 0]) S1x8x128.size slot_inb (fun b => by simp) rfl
omit [FloatOps F] in
theorem slotSet_cover : Finset.univ.biUnion slotSet = Finset.univ :=
  Ring.lead_cover (s := S4x8x128) 0 1 (fun k : Fin 4 => ![k.val, 0, 0]) S1x8x128.size slot_inb (fun b => by simp)
    (fun b a ha => by fin_cases a <;> first | exact absurd rfl ha | rfl) rfl
    (fun a ha => by fin_cases a <;> first | exact absurd rfl ha | rfl) rfl
omit [FloatOps F] in
theorem slot_set' (k : Fin 4) : (slotM k).view.set = slotSet k := by
  rw [slot_set]
  exact View.set_slice_whole _ _
omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

omit [FloatOps F] in
theorem slotAny_intro (k : Fin 4) (c : Dev nD) (f : Buf (Elt F) ((c : Thread nD τ).loc cc0_scratch1)) :
    (((c : Thread nD τ).loc cc0_scratch1) ↦[slotSet k]{fullShare} f : sProp 𝕄) ⊢ slotAny k c := by
  unfold slotAny slot owns
  rw [slot_set']
  iintro H
  iexists _; iexists f
  isplitr; · ipureintro; rfl
  iexact H
omit [FloatOps F] in
theorem slotAny_elim (k : Fin 4) (c : Dev nD) :
    (slotAny k c : sProp 𝕄) ⊢ iprop(∃ f : Buf (Elt F) ((c : Thread nD τ).loc cc0_scratch1), ((c : Thread nD τ).loc cc0_scratch1) ↦[slotSet k]{fullShare} f) := by
  unfold slotAny slot owns
  rw [slot_set']
  iintro ⟨%X, %f, -, H⟩
  iexists f
  iexact H

omit [FloatOps F] in
theorem comm_split (c : Dev nD) : (commAny c : sProp 𝕄) ⊢ iprop(slotAny 0 c ∗ slotAny 1 c ∗ slotAny 2 c ∗ slotAny 3 c) := by
  iintro ⟨%f, H⟩
  ihave H := (Entails.of_eq (Ring.pointsTo_blocks (ℓ := (c : Thread nD τ).loc cc0_scratch1) slotSet slotSet_disj slotSet_cover f)) $$ H
  ihave H := (Entails.of_eq (bigSep_fin4 _)) $$ H
  icases H with ⟨H0, H1, H2, H3⟩
  isplitl [H0]; · iapply (slotAny_intro 0 c f); iexact H0
  isplitl [H1]; · iapply (slotAny_intro 1 c f); iexact H1
  isplitl [H2]; · iapply (slotAny_intro 2 c f); iexact H2
  iapply (slotAny_intro 3 c f); iexact H3

omit [FloatOps F] in
theorem comm_join (c : Dev nD) : iprop(slotAny 0 c ∗ slotAny 1 c ∗ slotAny 2 c ∗ slotAny 3 c) ⊢ (commAny c : sProp 𝕄) := by
  iintro ⟨H0, H1, H2, H3⟩
  ihave H0 := (slotAny_elim 0 c) $$ H0
  ihave H1 := (slotAny_elim 1 c) $$ H1
  ihave H2 := (slotAny_elim 2 c) $$ H2
  ihave H3 := (slotAny_elim 3 c) $$ H3
  icases H0 with ⟨%f, H0⟩
  iapply (Ring.pointsTo_blocks_join_exists (ℓ := (c : Thread nD τ).loc cc0_scratch1) slotSet slotSet_disj slotSet_cover f)
  iapply (Entails.of_eq (bigSep_fin4 _).symm)
  isplitl [H0]; · iexists f; iexact H0
  isplitl [H1]; · iexact H1
  isplitl [H2]; · iexact H2
  iexact H3

/-! ## What the call holds between its points -/

/-- The staging buffers of the second call, at anything. -/
def stg1 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- What no point touches: those, the counters of the two semaphores no copy uses, and the generator's register. -/
def idle (c : Dev nD) : sProp 𝕄 :=
  iprop(stg1 c ∗ (semVal (sendCell 3 c) 0 ∗ semVal (recvCell 0 c) 0) ∗ ∃ r, prngReg c r)

/-- Before the first point; before point `n` of the others; after the last. -/
def atStart (c : Dev nD) : sProp 𝕄 :=
  iprop((∃ K, ringGhost m K c) ∗ barGhost c ∗ totAny c ∗ commAny c)
def atPoint (n : ℕ) (c : Dev nD) : sProp 𝕄 :=
  iprop((∃ K, ringGhost m K c) ∗ ready c ∗ semVal (barCell c) 0 ∗ totPt c (totn m c n))
def atEnd (c : Dev nD) : sProp 𝕄 :=
  iprop(closed c ∗ semVal (barCell c) 0 ∗ totAny c ∗ commAny c)

def inv0 (n : ℕ) (c : Dev nD) : sProp 𝕄 :=
  if n = 0 then atStart m c else if n = 8 then atEnd c else atPoint m n c
def owed0 (n : ℕ) (c : Dev nD) : CellTallies nD τ sig Unit := if n = 0 then O₀ c else if n = 8 then 0 else D3 c

/-- The first call's data: the operand's block at every point; the statistics left at the last. -/
def dat0 (c : Dev nD) : Dat τ (Elt F) Unit ℕ UU ℕ cfg0 c where
  A w := V0 m c (Proc.devRef .tc (Pipeline.arrRef spec0 w))
  after w t := match w with
    | ⟨0, _⟩ => xblk m c t
    | ⟨1, _⟩ => stat m c
  Φ t := iprop(idle c ∗ inv0 m t.val c)
  q _ := fullShare
  owed t := owed0 t.val c

theorem owesAt_intro {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

theorem before0_0 (c : Dev nD) (t : Fin cfg0.N) (d) : (dat0 m c).before 0 t d = xblk m c t :=
  (dat0 m c).before_fetched 0 t (fetch0_0 t) d

/-- What the windows hold at a point's start and at its end. -/
theorem inv0_zero (c : Dev nD) : inv0 m 0 c = atStart m c := if_pos rfl
theorem inv0_mid (n : ℕ) (c : Dev nD) (h0 : n ≠ 0) (h8 : n ≠ 8) : inv0 m n c = atPoint m n c := by
  unfold inv0; rw [if_neg h0, if_neg h8]
theorem inv0_end (c : Dev nD) : inv0 m 8 c = atEnd c := by unfold inv0; rw [if_neg (by decide), if_pos rfl]
omit [FloatOps F] in
theorem owed0_mid (n : ℕ) (c : Dev nD) (h0 : n ≠ 0) (h8 : n ≠ 8) : owed0 n c = D3 c := by
  unfold owed0; rw [if_neg h0, if_neg h8]

theorem idle0_mid (t : Fin cfg0.N) (h : t.val ≠ 7) : cfg0.idle 1 (cfg0.grid.coords t) = true := by
  show (!(k0_cond4 (grid0.coords t) == 1#1)) = true
  have : ¬ k0_cond4 (grid0.coords t) = 1#1 := fun hc => h ((cond4_iff t).mp hc)
  simp [this]
theorem idle0_last (t : Fin cfg0.N) (h : t.val = 7) : cfg0.idle 1 (cfg0.grid.coords t) = false := by
  show (!(k0_cond4 (grid0.coords t) == 1#1)) = false
  have : k0_cond4 (grid0.coords t) = 1#1 := (cond4_iff t).mpr h
  simp [this]
theorem flush0_mid (t : Fin cfg0.N) (h : t.val ≠ 7) : (cfg0.win 1).flush t = false := by
  have ht : t.val < 8 := Nat.lt_of_lt_of_eq t.isLt N_0
  rw [Bool.eq_false_iff]
  intro hc
  have := (flush0_1 t).mp hc
  omega

/-- The obligation of the body at a point, its windows written out: what the operand's window leaves, and what the result's
    window leaves. -/
theorem post_mid (c : Dev nD) (t : Fin cfg0.N) (h : t.val ≠ 7) :
    (dat0 m c).leavesExact 1 t = iprop(∃ d, owns (c : Thread nD τ) ((cfg0.win 1).stage (cfg0.slots t 1)) fullShare ((dat0 m c).before 1 t d)) :=
  (dat0 m c).leavesExact_idle 1 t (idle0_mid t h) (flush0_mid t h)
theorem post_last (c : Dev nD) (t : Fin cfg0.N) (h : t.val = 7) :
    (dat0 m c).leavesExact 1 t = owns (c : Thread nD τ) ((cfg0.win 1).stage (cfg0.slots t 1)) fullShare (stat m c) := by
  unfold Dat.leavesExact
  rw [idle0_last t h]
  rfl
theorem post_in (c : Dev nD) (t : Fin cfg0.N) :
    (dat0 m c).leavesExact 0 t = owns (c : Thread nD τ) ((cfg0.win 0).stage (cfg0.slots t 0)) fullShare (xblk m c t) := rfl

/-- The obligation at one point, over what the windows hold there. -/
def Ob (c : Dev nD) (t : Fin cfg0.N) : Prop :=
  iprop((idle c ∗ inv0 m t.val c) ∗ (∃ W, owes (c : Thread nD τ) (owed0 t.val c) W)
      ∗ owns (c : Thread nD τ) ((cfg0.win 0).stage (cfg0.slots t 0)) fullShare (xblk m c t)
      ∗ ∃ d, owns (c : Thread nD τ) ((cfg0.win 1).stage (cfg0.slots t 1)) fullShare ((dat0 m c).before 1 t d))
    ⊢ wpc c (bodyAt0 (F := F) t) fun _ =>
      iprop((idle c ∗ inv0 m (t.val + 1) c) ∗ (∃ W, owes (c : Thread nD τ) (owed0 (t.val + 1) c) W)
        ∗ owns (c : Thread nD τ) ((cfg0.win 0).stage (cfg0.slots t 0)) fullShare (xblk m c t)
        ∗ (dat0 m c).leavesExact 1 t)

theorem ring_pers (K : GSem nD τ sig → ℕ) (c : Dev nD) : ringGhost m K c ⊢ iprop(invs m K ∗ levAts L lv) := by
  unfold ringGhost
  iintro ⟨#HI, -, -, -, -, -, -, #Hl⟩
  isplitr; · iexact HI
  iexact Hl

theorem totn_first (c : Dev nD) (t : Fin cfg0.N) (h : t.val = 0) : totn m c 1 = acc0 (xblk m c t) (k0_pay7 (F := F)) := by
  have := totn_lo m c t (by omega)
  rw [h] at this
  exact this

theorem ob_first (c : Dev nD) (t : Fin cfg0.N) (h : t.val = 0) : Ob m c t := by
  unfold Ob
  rw [post_mid m c t (by omega), h, inv0_zero, inv0_mid m (0 + 1) c (by decide) (by decide),
    owed0_mid (0 + 1) c (by decide) (by decide)]
  unfold atStart atPoint
  iintro ⟨⟨Hi, ⟨⟨%K, Hg⟩, Hb, ⟨%f, Ht⟩, Hc⟩⟩, ⟨%W, HO⟩, Hx, Ho⟩
  ihave Hs := (comm_split c) $$ Hc
  ihave #HI := (ring_pers m K c) $$ Hg
  iapply (first_run m (grid0.coords t) _ _ _ _ _ _ ((cond1_iff t).mpr h) ((isB0_iff t).mpr (by omega))
    (fun hc => by have := (isB1_iff t).mp hc; omega) (fun hc => by have := (cond4_iff t).mp hc; omega)
    K c W (xblk m c t) f _)
  isplitl [Hb Ht Hs Hx HO]
  · icases HI with ⟨#HI, #Hl⟩
    isplitr; · iexact HI
    isplitr; · iexact Hl
    isplitl [Hb]; · iexact Hb
    isplitl [Ht]; · iexact Ht
    isplitl [Hs]; · iexact Hs
    isplitl [Hx]; · iexact Hx
    iexact HO
  iintro ⟨Ht, Hr, Hb, Hx, HO⟩
  rw [totn_first m c t h]
  isplitr [HO Hx Ho]
  · isplitl [Hi]; · iexact Hi
    isplitl [Hg]; · iexists K; iexact Hg
    isplitl [Hr]; · iexact Hr
    isplitl [Hb]; · iexact Hb
    iexact Ht
  isplitl [HO]; · iexact HO
  isplitl [Hx]; · iexact Hx
  iexact Ho

theorem ob_lo (c : Dev nD) (t : Fin cfg0.N) (h : t.val ≠ 0) (h' : t.val < 4) : Ob m c t := by
  unfold Ob
  rw [post_mid m c t (by omega), inv0_mid m t.val c h (by omega), inv0_mid m (t.val + 1) c (by omega) (by omega),
    owed0_mid t.val c h (by omega), owed0_mid (t.val + 1) c (by omega) (by omega)]
  unfold atPoint
  iintro ⟨⟨Hi, ⟨Hg, Hr, Hb, Ht⟩⟩, HO, Hx, Ho⟩
  iapply (b0_run (grid0.coords t) _ _ _ _ _ _ (fun hc => h ((cond1_iff t).mp hc)) ((isB0_iff t).mpr h')
    (fun hc => by have := (isB1_iff t).mp hc; omega) (fun hc => by have := (cond4_iff t).mp hc; omega)
    c (xblk m c t) _ _)
  isplitl [Ht Hx]
  · isplitl [Ht]; · iexact Ht
    iexact Hx
  iintro ⟨Ht, Hx⟩
  rw [totn_lo m c t h']
  isplitr [HO Hx Ho]
  · isplitl [Hi]; · iexact Hi
    isplitl [Hg]; · iexact Hg
    isplitl [Hr]; · iexact Hr
    isplitl [Hb]; · iexact Hb
    iexact Ht
  isplitl [HO]; · iexact HO
  isplitl [Hx]; · iexact Hx
  iexact Ho

theorem ob_hi (c : Dev nD) (t : Fin cfg0.N) (h : 4 ≤ t.val) (h' : t.val < 7) : Ob m c t := by
  unfold Ob
  rw [post_mid m c t (by omega), inv0_mid m t.val c (by omega) (by omega), inv0_mid m (t.val + 1) c (by omega) (by omega),
    owed0_mid t.val c (by omega) (by omega), owed0_mid (t.val + 1) c (by omega) (by omega)]
  unfold atPoint
  iintro ⟨⟨Hi, ⟨Hg, Hr, Hb, Ht⟩⟩, HO, Hx, Ho⟩
  iapply (b1_run (grid0.coords t) _ _ _ _ _ _ (fun hc => by have := (cond1_iff t).mp hc; omega)
    (fun hc => by have := (isB0_iff t).mp hc; omega) ((isB1_iff t).mpr h) (fun hc => by have := (cond4_iff t).mp hc; omega)
    c (xblk m c t) _ _)
  isplitl [Ht Hx]
  · isplitl [Ht]; · iexact Ht
    iexact Hx
  iintro ⟨Ht, Hx⟩
  rw [totn_hi m c t (by omega)]
  isplitr [HO Hx Ho]
  · isplitl [Hi]; · iexact Hi
    isplitl [Hg]; · iexact Hg
    isplitl [Hr]; · iexact Hr
    isplitl [Hb]; · iexact Hb
    iexact Ht
  isplitl [HO]; · iexact HO
  isplitl [Hx]; · iexact Hx
  iexact Ho

theorem part_last (c : Dev nD) (t : Fin cfg0.N) (h : t.val = 7) : acc1 (xblk m c t) (totn m c 7) = part m c := by
  have := totn_hi m c t (by omega)
  rw [h] at this
  exact this.symm

theorem ob_last (c : Dev nD) (t : Fin cfg0.N) (h : t.val = 7) : Ob m c t := by
  unfold Ob
  rw [post_last m c t h, h, inv0_mid m 7 c (by decide) (by decide), show (7 : ℕ) + 1 = 8 from rfl, inv0_end,
    owed0_mid 7 c (by decide) (by decide), show owed0 8 c = 0 from rfl]
  unfold atPoint atEnd
  iintro ⟨⟨Hi, ⟨⟨%K, Hg⟩, Hr, Hb, Ht⟩⟩, ⟨%W, HO⟩, Hx, ⟨%d, Ho⟩⟩
  iapply (last_run m (grid0.coords t) _ _ _ _ _ _ (fun hc => by have := (cond1_iff t).mp hc; omega)
    (fun hc => by have := (isB0_iff t).mp hc; omega) ((isB1_iff t).mpr (by omega)) ((cond4_iff t).mpr h)
    K c W (xblk m c t) (totn m c 7) (part_last m c t h) _)
  isplitl [Hg Hr Ht Hx Ho HO]
  · isplitl [Hg]; · iexact Hg
    isplitl [Hr]; · iexact Hr
    isplitl [Ht]; · iexact Ht
    isplitl [Hx]; · iexact Hx
    isplitl [Ho]; · iexists _; iexact Ho
    iexact HO
  iintro ⟨Ht, Hs, Hz, Hx, Ho, HO⟩
  isplitr [HO Hx Ho]
  · isplitl [Hi]; · iexact Hi
    isplitl [Hz]; · iexact Hz
    isplitl [Hb]; · iexact Hb
    isplitl [Ht]; · iexists _; iexact Ht
    iapply (comm_join c); iexact Hs
  isplitl [HO]; · iexact HO
  isplitl [Hx]; · iexact Hx
  iexact Ho

theorem ob (c : Dev nD) (t : Fin cfg0.N) : Ob m c t := by
  have ht : t.val < 8 := Nat.lt_of_lt_of_eq t.isLt N_0
  by_cases h : t.val = 0
  · exact ob_first m c t h
  by_cases h4 : t.val < 4
  · exact ob_lo m c t h h4
  by_cases h7 : t.val = 7
  · exact ob_last m c t h7
  · exact ob_hi m c t (by omega) (by omega)

/-- The body's obligation at every point. -/
theorem body0 (c : Dev nD) : BodyObligation (dat0 (F := F) m c) defs₀ 𝒱₀ () Set.univ := fun t => by
  rw [bigSep_W0, bigSep_W0]
  show iprop((idle c ∗ inv0 m t.val c) ∗ (dat0 m c).owesAt () t.castSucc
      ∗ (∃ d, owns (c : Thread nD τ) ((cfg0.win 0).stage (cfg0.slots t 0)) fullShare ((dat0 m c).before 0 t d))
      ∗ ∃ d, owns (c : Thread nD τ) ((cfg0.win 1).stage (cfg0.slots t 1)) fullShare ((dat0 m c).before 1 t d))
    ⊢ wpc c (bodyAt0 (F := F) t) fun _ =>
      iprop((idle c ∗ inv0 m (t.val + 1) c) ∗ (dat0 m c).owesAt () t.succ
        ∗ owns (c : Thread nD τ) ((cfg0.win 0).stage (cfg0.slots t 0)) fullShare (xblk m c t)
        ∗ (dat0 m c).leavesExact 1 t)
  refine BI.BIBase.Entails.trans ?_ ((ob m c t).trans (wp_mono _ _ _ fun _ => ?_))
  · iintro ⟨HΦ, HO, ⟨%d, Hx⟩, Ho⟩
    rw [before0_0]
    ihave HO := (owesAt_elim (dat0 m c) t.castSucc (owed0 t.val c) rfl) $$ HO
    isplitl [HΦ]; · iexact HΦ
    isplitl [HO]; · iexact HO
    isplitl [Hx]; · iexact Hx
    iexact Ho
  · iintro ⟨HΦ, HO, Hx, Ho⟩
    ihave HO := (owesAt_intro (dat0 m c) t.succ (owed0 (t.val + 1) c) rfl rfl) $$ HO
    isplitl [HΦ]; · iexact HΦ
    isplitl [HO]; · iexact HO
    isplitl [Hx]; · iexact Hx
    iexact Ho

end Cert.KernelIdeal.Stats
-- ==== Proof.Ideal.Region1.lean ====
/-
  The second call: its body at a point, what its windows hold, and its body's obligation.
-/
module

public import proofs.«01_k».proof.Proof.Ideal.Region0

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ)

/-- The statistics after the first call, and every buffer then. -/
def statArr (c : Dev nD) : Buf (Elt F) ((c : Thread nD τ).loc main_v1) := (dat0 m c).arrAt 1 cfg0.N
abbrev W1 (c : Dev nD) : Valuation τ sig (Elt F) := Function.update (V0 m c) (Proc.devRef .tc main_v1) (statArr m c)

/-- A row of the statistics. -/
abbrev rowOf (r : Rect S8x128) (S : Vec F S8x128 .f32) : r.shape.Idx → Elt F .f32 := fun j => S (r.toLoadRect.idx j)

/-- The block the body stores at coordinates `i` of a block of the operand, the statistics and the weights. -/
def appOut (i : grid1.Coords) (X : Vec F S1x32x256x128 .f32) (S : Vec F S8x128 .f32) (P : Vec F S128x256 .f32) : Vec F S1x32x256x256 .bf16 :=
  k1_pay1 (k1_pay2 i (rowOf r0 S) (rowOf r1 S) (rowOf r2 S) (rowOf r3 S) X P)

/-- What the windows of the second call hold at a point. -/
abbrev ablk (c : Dev nD) (t : Fin cfg1.N) : Vec F S1x32x256x128 .f32 :=
  ((cfg1.win 0).blk t).view.read (Elt F) (W1 m c (Proc.devRef .tc main_arg0))
abbrev sblk (c : Dev nD) (t : Fin cfg1.N) : Vec F S8x128 .f32 :=
  ((cfg1.win 1).blk t).view.read (Elt F) (W1 m c (Proc.devRef .tc main_v1))
abbrev pblk (c : Dev nD) (t : Fin cfg1.N) : Vec F S128x256 .f32 :=
  ((cfg1.win 2).blk t).view.read (Elt F) (W1 m c (Proc.devRef .tc main_arg1))

/-- What no point of the second call touches. -/
def idle1 (c : Dev nD) : sProp 𝕄 := Pipeline.scopedRest spec1 c

/-- The second call's data: the blocks of its operands, and the block it stores, at every point. -/
def dat1 (c : Dev nD) : Dat τ (Elt F) Unit ℕ UU ℕ cfg1 c where
  A w := W1 m c (Proc.devRef .tc (Pipeline.arrRef spec1 w))
  after w t := match w with
    | ⟨0, _⟩ => ablk m c t
    | ⟨1, _⟩ => sblk m c t
    | ⟨2, _⟩ => pblk m c t
    | ⟨3, _⟩ => appOut (grid1.coords t) (ablk m c t) (sblk m c t) (pblk m c t)
  Φ _ := idle1 c
  q _ := fullShare
  owed _ := 0

theorem before1_0 (c : Dev nD) (t : Fin cfg1.N) (d) : (dat1 m c).before 0 t d = ablk m c t :=
  (dat1 m c).before_fetched 0 t (fetch1_0 t) d
theorem before1_1 (c : Dev nD) (t : Fin cfg1.N) (d) : (dat1 m c).before 1 t d = sblk m c t :=
  (dat1 m c).before_in_eq_fetched 1 rfl (fun _ => rfl) (fun _ _ _ => rfl) (fun _ => rfl) t d
theorem before1_2 (c : Dev nD) (t : Fin cfg1.N) (d) : (dat1 m c).before 2 t d = pblk m c t :=
  (dat1 m c).before_in_eq_fetched 2 rfl (fun _ => rfl) (fun _ _ _ => rfl) (fun _ => rfl) t d

/-! ## The body -/

variable (i : grid1.Coords) (x : Memref sig .tc .vmem S1x32x256x128 .f32) (hx : x.IsWhole) (s : Memref sig .tc .vmem S8x128 .f32)
  (hs : s.IsWhole) (p : Memref sig .tc .vmem S128x256 .f32) (hp : p.IsWhole) (o : Memref sig .tc .vmem S1x32x256x256 .bf16) (ho : o.IsWhole)

abbrev aX : Rect S1x32x256x128 :=
  Rect.unit (s := S1x32x256x128) ![0, 0, 0, 0] S1x32x256x128.size inb_S1x32x256x128_S1x32x256x128_0_0_0_0
abbrev aP : Rect S128x256 := Rect.unit (s := S128x256) ![0, 0] S128x256.size inb_S128x256_S128x256_0_0
abbrev aO : Rect S1x32x256x256 :=
  Rect.unit (s := S1x32x256x256) ![0, 0, 0, 0] S1x32x256x256.size inb_S1x32x256x256_S1x32x256x256_0_0_0_0

/-- A load of part of a window's buffer: the part of what the window holds. -/
theorem win_load {α : Type} {Q : α → sProp 𝕄} {sh : Shape} {e : EltTy} (w : Memref sig .tc .vmem sh e) (c : Dev nD) (X : Vec F sh e) (r : Rect sh)
    {hl : w.view.LoadsAt r.toLoadRect} {k : (r.shape.Idx → Elt F e) → Prog (TpuEff nD τ sig (Elt F) Λ₀ .tc) α} :
    (owns (c : Thread nD τ) w fullShare X : sProp 𝕄)
      ⊢ iprop((owns (c : Thread nD τ) w fullShare X -∗ wpc c (k (fun j => X (r.toLoadRect.idx j))) Q)
        -∗ wpc c (.op (.load w r.toLoadRect hl) k) Q) := by
  unfold owns
  iintro ⟨%f, %hf, H⟩ Hk
  iapply (wp_load 𝒱₀ (c : Thread nD τ) none Set.univ (m := w) (r := r.toLoadRect) (S := w.view.set) (f := f)
    (View.setOn_subset_set _ _)) $$ [H]
  · iexact H
  iintro H
  subst hf
  iapply Hk
  iexists f
  isplitr; · ipureintro; rfl
  iexact H

omit [FloatOps F] in
theorem aX_all (X : Vec F S1x32x256x128 .f32) : (fun j => X (aX.toLoadRect.idx j)) = X := by
  funext j
  congr 1
  funext a
  apply Fin.ext
  show (![0, 0, 0, 0] : Fin 4 → ℕ) a + 1 * (j a).val = (j a).val
  rw [show (![0, 0, 0, 0] : Fin 4 → ℕ) a = 0 from by fin_cases a <;> rfl]
  omega
omit [FloatOps F] in
theorem aP_all (X : Vec F S128x256 .f32) : (fun j => X (aP.toLoadRect.idx j)) = X := by
  funext j
  congr 1
  funext a
  apply Fin.ext
  show (![0, 0] : Fin 2 → ℕ) a + 1 * (j a).val = (j a).val
  rw [show (![0, 0] : Fin 2 → ℕ) a = 0 from by fin_cases a <;> rfl]
  omega
omit [FloatOps F] in
theorem aO_all (X : Vec F S1x32x256x256 .bf16) : (fun j => X (aO.toLoadRect.idx j)) = X := by
  funext j
  congr 1
  funext a
  apply Fin.ext
  show (![0, 0, 0, 0] : Fin 4 → ℕ) a + 1 * (j a).val = (j a).val
  rw [show (![0, 0, 0, 0] : Fin 4 → ℕ) a = 0 from by fin_cases a <;> rfl]
  omega

/-- The store of the result's block. -/
theorem out_put {α : Type} {Q : α → sProp 𝕄} (c : Dev nD) (Y Z : Vec F S1x32x256x256 .bf16)
    {hx : (o.access aO).Stores Finset.univ} {hm : (Finset.univ : Finset aO.shape.Idx) = Finset.univ ∨ ∀ a, aO.stride a = 1}
    {k : PUnit → Prog (TpuEff nD τ sig (Elt F) Λ₀ .tc) α} :
    (owns (c : Thread nD τ) o fullShare Y : sProp 𝕄)
      ⊢ iprop((owns (c : Thread nD τ) o fullShare Z -∗ wpc c (k ⟨⟩) Q)
        -∗ wpc c (.op (.store o aO Z Finset.univ hx hm) k) Q) := by
  unfold owns
  iintro ⟨%f, -, H⟩ Hk
  iapply (wp_store 𝒱₀ (c : Thread nD τ) none Set.univ (m := o) (r := aO) (w := Z) (Mk := Finset.univ) (hx := hx) (hm := hm)
    (S := o.view.set) (f := f) ((View.setOn_subset_set _ _).trans (View.set_slice_subset _ _))) $$ [H]
  · iexact H
  iintro H
  iapply Hk
  iexists _
  isplitr
  pick_goal 2
  · iexact H
  ipureintro
  have h := View.read_write_univ (Val := Elt F) (v := (o.access aO : View sig .tc _ _ _)) f Z
  have h2 := aO_all (F := F) (o.view.read (Elt F) ((o.access aO : View sig .tc _ _ _).write (Elt F) f Z Finset.univ))
  exact h2.symm.trans h

set_option maxHeartbeats 1600000 in
/-- A point of the second call: its operands are read and its block is stored. -/
theorem apply_run (c : Dev nD) (X : Vec F S1x32x256x128 .f32) (S : Vec F S8x128 .f32) (P : Vec F S128x256 .f32) (Kt : PUnit → sProp 𝕄) :
    iprop((owns (c : Thread nD τ) x fullShare X ∗ owns (c : Thread nD τ) s fullShare S ∗ owns (c : Thread nD τ) p fullShare P
          ∗ ∃ Y : Vec F S1x32x256x256 .bf16, owns (c : Thread nD τ) o fullShare Y)
        ∗ ((owns (c : Thread nD τ) x fullShare X ∗ owns (c : Thread nD τ) s fullShare S ∗ owns (c : Thread nD τ) p fullShare P
          ∗ owns (c : Thread nD τ) o fullShare (appOut i X S P)) -∗ Kt ⟨⟩))
      ⊢ wpc c (cc1__apply_body (F := F) i x hx s hs p hp o ho) Kt := by
  rw [cc1__apply_body_eq_skeleton]
  unfold cc1__apply_body_skel
  rw [k1_part1_eq_skeleton]
  unfold k1_part1_skel
  simp only [Prog.lift, Prog.bind_op, Prog.bind_ret, Prog.pure_eq_ret]
  iintro ⟨⟨Hx, Hs, Hp, ⟨%Y, Ho⟩⟩, Hk⟩
  iapply (win_load s c S r0) $$ [Hs]
  · iexact Hs
  iintro Hs
  iapply (win_load s c S r1) $$ [Hs]
  · iexact Hs
  iintro Hs
  iapply (win_load s c S r2) $$ [Hs]
  · iexact Hs
  iintro Hs
  iapply (win_load s c S r3) $$ [Hs]
  · iexact Hs
  iintro Hs
  iapply (win_load x c X aX) $$ [Hx]
  · iexact Hx
  iintro Hx
  iapply (win_load p c P aP) $$ [Hp]
  · iexact Hp
  iintro Hp
  iapply (win_load o c Y aO) $$ [Ho]
  · iexact Ho
  iintro Ho
  rw [aX_all, aP_all]
  iapply (out_put o c Y _) $$ [Ho]
  · iexact Ho
  iintro Ho
  unfold wpc
  rw [wp_ret]
  imodintro
  iapply Hk
  isplitl [Hx]; · iexact Hx
  isplitl [Hs]; · iexact Hs
  isplitl [Hp]; · iexact Hp
  unfold appOut
  iexact Ho

/-- The body's obligation at every point. -/
theorem body1 (c : Dev nD) : BodyObligation (dat1 (F := F) m c) defs₀ 𝒱₀ () Set.univ := fun t => by
  rw [bigSep_W1, bigSep_W1]
  show iprop(idle1 c ∗ (dat1 m c).owesAt () t.castSucc
      ∗ (∃ d, owns (c : Thread nD τ) ((cfg1.win 0).stage (cfg1.slots t 0)) fullShare ((dat1 m c).before 0 t d))
      ∗ (∃ d, owns (c : Thread nD τ) ((cfg1.win 1).stage (cfg1.slots t 1)) fullShare ((dat1 m c).before 1 t d))
      ∗ (∃ d, owns (c : Thread nD τ) ((cfg1.win 2).stage (cfg1.slots t 2)) fullShare ((dat1 m c).before 2 t d))
      ∗ ∃ d, owns (c : Thread nD τ) ((cfg1.win 3).stage (cfg1.slots t 3)) fullShare ((dat1 m c).before 3 t d))
    ⊢ wpc c (bodyAt1 (F := F) t) fun _ =>
      iprop(idle1 c ∗ (dat1 m c).owesAt () t.succ
        ∗ owns (c : Thread nD τ) ((cfg1.win 0).stage (cfg1.slots t 0)) fullShare (ablk m c t)
        ∗ owns (c : Thread nD τ) ((cfg1.win 1).stage (cfg1.slots t 1)) fullShare (sblk m c t)
        ∗ owns (c : Thread nD τ) ((cfg1.win 2).stage (cfg1.slots t 2)) fullShare (pblk m c t)
        ∗ owns (c : Thread nD τ) ((cfg1.win 3).stage (cfg1.slots t 3)) fullShare
            (appOut (grid1.coords t) (ablk m c t) (sblk m c t) (pblk m c t)))
  iintro ⟨HΦ, HO, ⟨%d0, Hx⟩, ⟨%d1, Hs⟩, ⟨%d2, Hp⟩, ⟨%d3, Ho⟩⟩
  rw [before1_0, before1_1, before1_2]
  iapply (apply_run (grid1.coords t) _ _ _ _ _ _ _ _ c (ablk m c t) (sblk m c t) (pblk m c t) _)
  isplitl [Hx Hs Hp Ho]
  · isplitl [Hx]; · iexact Hx
    isplitl [Hs]; · iexact Hs
    isplitl [Hp]; · iexact Hp
    iexists _; iexact Ho
  iintro ⟨Hx, Hs, Hp, Ho⟩
  isplitl [HΦ]; · iexact HΦ
  isplitl [HO]; · iexact HO
  isplitl [Hx]; · iexact Hx
  isplitl [Hs]; · iexact Hs
  isplitl [Hp]; · iexact Hp
  iexact Ho

end Cert.KernelIdeal.Stats
-- ==== Proof.Ideal.Segs.lean ====
/-
  The two calls as regions of the program: the first entered with the rights to open its cells, closed with its counters at
  zero; the second over the buffers the first leaves.
-/
module

public import proofs.«01_k».proof.Proof.Ideal.Region1
public import Idealize.ShloMosaic.Lib.Pipeline.RegionTalk

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ)

/-- The data of the two calls. -/
@[reducible] def pdats : (p : Fin 2) → (c : Dev nD) → Dat τ (Elt F) Unit ℕ UU ℕ (Pipeline.pin (pcfgs (F := F)) adm p) c
  | 0 => dat0 m
  | 1 => dat1 m

/-- The semaphores the first call declares itself: four for the copies out, four for the copies in. -/
abbrev osem0 : Fin 8 → SemLoc sig := fun k => .dma ⟨3 + k.val, by have := k.isLt; show 3 + k.val < 17; omega⟩

omit [FloatOps F] in
theorem ownSems0_list (c : Dev nD) :
    (Pipeline.ownSems0 osem0 c : sProp 𝕄)
      = iprop(semVal (sendCell 0 c) 0 ∗ semVal (sendCell 1 c) 0 ∗ semVal (sendCell 2 c) 0 ∗ semVal (sendCell 3 c) 0
        ∗ semVal (recvCell 0 c) 0 ∗ semVal (recvCell 1 c) 0 ∗ semVal (recvCell 2 c) 0 ∗ semVal (recvCell 3 c) 0) :=
  Pipeline.ownSems0_eq_of_list c osem0 [0, 1, 2, 3, 4, 5, 6, 7] (by decide) (by decide)

/-! ## The first call -/

/-- What the launch leaves with device `c` for the first call, cells unopened. -/
def seed (K : GSem nD τ sig → ℕ) (c : Dev nD) : sProp 𝕄 :=
  iprop(invs m K
    ∗ atPos ER (barCell c) 0 ∅ 0
    ∗ (openTok ER (sendCell 0 c) ∗ openTok ER (sendCell 1 c) ∗ openTok ER (sendCell 2 c))
    ∗ (openTok ER (recvCell 1 c) ∗ openTok ER (recvCell 2 c) ∗ openTok ER (recvCell 3 c))
    ∗ (reached ER (barCell (prv c)) 0 ∗ reached ER (barCell (nxt c)) 0)
    ∗ (dutyTok ER (barCell (prv c)) 0 true ∗ dutyTok ER (barCell (nxt c)) 0 false)
    ∗ (dutyTok ER (sendCell 0 c) 0 false ∗ dutyTok ER (sendCell 1 c) 0 false ∗ dutyTok ER (sendCell 2 c) 0 false)
    ∗ (dutyTok ER (recvCell 1 (nxt c)) 0 false ∗ dutyTok ER (recvCell 2 (nxt c)) 0 false ∗ dutyTok ER (recvCell 3 (nxt c)) 0 false))

/-- The credits of the launch. -/
def credits (c : Dev nD) : sProp 𝕄 :=
  iprop(cred (tallyAt (barCell c) () 2)
    ∗ cred (tallyAt (recvCell 1 c) () N) ∗ cred (tallyAt (recvCell 2 c) () N) ∗ cred (tallyAt (recvCell 3 c) () N))

def talkIn (c : Dev nD) : sProp 𝕄 := iprop((∃ K, seed m K c) ∗ credits c)
/-- The same with the cells open, and the counters of the two semaphores no copy uses. -/
def talkOpen (c : Dev nD) : sProp 𝕄 :=
  iprop((∃ K, ringGhost m K c) ∗ barGhost c ∗ semVal (sendCell 3 c) 0 ∗ semVal (recvCell 0 c) 0)
abbrev talkOut (c : Dev nD) : sProp 𝕄 := semVal (barCell c) 0

/-- Opening one cell from its counter at zero. -/
theorem open_cell (K : GSem nD τ sig → ℕ) (g : GSem nD τ sig) (h : g ∈ cells) :
    iprop(invs m K ∗ openTok ER g ∗ semVal g 0) ⊢ (|={Set.univ}=> iprop(atPos ER g 0 ∅ 0 ∗ reached ER g 0) : sProp 𝕄) := by
  iintro ⟨#HI, Ho, Hs⟩
  imod (Rounds.cell_open ER (rd m) (g := g) (Set.mem_univ (K g))) $$ [Ho Hs] with ⟨Hat, #Hr⟩
  · isplitr; · iapply (inv_of m K g h); iexact HI
    isplitl [Ho] <;> iassumption
  imodintro
  isplitl [Hat]; · iexact Hat
  iexact Hr

theorem send_in (k : Fin 4) (hk : k ≠ 3) (c : Dev nD) : sendCell k c ∈ cells := mem_cells c _ (by
    have : k = 0 ∨ k = 1 ∨ k = 2 := by revert k; decide
    rcases this with rfl | rfl | rfl <;> simp)
theorem recv_in (k : Fin 4) (hk : k ≠ 0) (c : Dev nD) : recvCell k c ∈ cells := mem_cells c _ (by
    have : k = 1 ∨ k = 2 ∨ k = 3 := by revert k; decide
    rcases this with rfl | rfl | rfl <;> simp)

theorem hopen0 (c : Dev nD) :
    iprop(talkIn m c ∗ Pipeline.ownSems0 osem0 c ∗ levAts L lv) ⊢ (|={Set.univ}=> talkOpen m c : sProp 𝕄) := by
  rw [ownSems0_list]
  unfold talkIn talkOpen credits
  iintro ⟨⟨⟨%K, Hg⟩, HcB, Hc1, Hc2, Hc3⟩, ⟨S0, S1, S2, S3, R0, R1, R2, R3⟩, #Hlev⟩
  unfold seed
  icases Hg with ⟨#HI, HaB, ⟨OS0, OS1, OS2⟩, ⟨OR1, OR2, OR3⟩, HrB, HtB, HtS, HtR⟩
  imod (open_cell m K _ (send_in 0 (by decide) c)) $$ [OS0 S0] with ⟨AS0, #RS0⟩
  · isplitr; · iexact HI
    isplitl [OS0] <;> iassumption
  imod (open_cell m K _ (send_in 1 (by decide) c)) $$ [OS1 S1] with ⟨AS1, #RS1⟩
  · isplitr; · iexact HI
    isplitl [OS1] <;> iassumption
  imod (open_cell m K _ (send_in 2 (by decide) c)) $$ [OS2 S2] with ⟨AS2, #RS2⟩
  · isplitr; · iexact HI
    isplitl [OS2] <;> iassumption
  imod (open_cell m K _ (recv_in 1 (by decide) c)) $$ [OR1 R1] with ⟨AR1, #RR1⟩
  · isplitr; · iexact HI
    isplitl [OR1] <;> iassumption
  imod (open_cell m K _ (recv_in 2 (by decide) c)) $$ [OR2 R2] with ⟨AR2, #RR2⟩
  · isplitr; · iexact HI
    isplitl [OR2] <;> iassumption
  imod (open_cell m K _ (recv_in 3 (by decide) c)) $$ [OR3 R3] with ⟨AR3, #RR3⟩
  · isplitr; · iexact HI
    isplitl [OR3] <;> iassumption
  imodintro
  isplitl [AS0 AS1 AS2 AR1 AR2 AR3 HtS HtR Hc1 Hc2 Hc3]
  · iexists K; unfold ringGhost
    isplitr; · iexact HI
    isplitl [AS0 AS1 AS2]
    · isplitl [AS0]; · iexact AS0
      isplitl [AS1] <;> iassumption
    isplitl [AR1 AR2 AR3]
    · isplitl [AR1]; · iexact AR1
      isplitl [AR2] <;> iassumption
    isplitr
    · isplitr; · iexact RS0
      isplitr; · iexact RS1
      iexact RS2
    isplitl [HtS]; · iexact HtS
    isplitl [HtR]; · iexact HtR
    isplitl [Hc1 Hc2 Hc3]
    · isplitl [Hc1]; · iexact Hc1
      isplitl [Hc2] <;> iassumption
    iexact Hlev
  isplitl [HaB HrB HtB HcB]
  · unfold barGhost
    isplitl [HaB]; · iexact HaB
    isplitr
    · isplitr; · iexact RR1
      isplitr; · iexact RR2
      iexact RR3
    isplitl [HrB]; · iexact HrB
    isplitl [HtB]; · iexact HtB
    iexact HcB
  isplitl [S3] <;> iassumption

theorem hin0 (c : Dev nD) :
    iprop(Pipeline.scopedRest (Pipeline.pin (pcfgs (F := F)) adm 0).spec c ∗ (∃ r, prngReg c r)
      ∗ StableHlo.held (c.tc : Thread nD τ) (∅ : Finset (DevRef τ sig)) (V0 m c) ∗ talkOpen m c) ⊢ (pdats m 0 c).Φ 0 := by
  rw [show (pdats m 0 c).Φ 0 = iprop(idle c ∗ inv0 m 0 c) from rfl, inv0_zero,
    show (Pipeline.scopedRest (Pipeline.pin (pcfgs (F := F)) adm 0).spec c : sProp 𝕄) = Pipeline.scopedRest spec0 c from rfl, scopedRest0_eq]
  unfold talkOpen idle stg1 atStart
  iintro ⟨⟨Ht, Hc, Hst⟩, Hp, -, HK, Hb, S3, R0⟩
  isplitl [Hst Hp S3 R0]
  · isplitl [Hst]; · iexact Hst
    isplitl [S3 R0]; · isplitl [S3] <;> iassumption
    iexact Hp
  isplitl [HK]; · iexact HK
  isplitl [Hb]; · iexact Hb
  isplitl [Ht]; · iexact Ht
  iexact Hc

theorem hout0 (c : Dev nD) (W : Valuation τ sig (Elt F)) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) W ∗ Pipeline.ownSems0 osem0 c ∗ talkOut c) := by
  rw [show (pdats m 0 c).Φ (Fin.last (Pipeline.pin (pcfgs (F := F)) adm 0).N) = iprop(idle c ∗ inv0 m 8 c) from by
      show iprop(idle c ∗ inv0 m (Fin.last grid0.N).val c) = _
      rw [Fin.val_last, N_0], inv0_end,
    show (Pipeline.scopedRest (Pipeline.pin (pcfgs (F := F)) adm 0).spec c : sProp 𝕄) = Pipeline.scopedRest spec0 c from rfl, scopedRest0_eq,
    ownSems0_list]
  unfold idle stg1 atEnd closed StableHlo.held
  rw [BI.bigSep_empty]
  iintro ⟨⟨Hst, ⟨S3, R0⟩, Hp⟩, ⟨⟨S0, S1, S2⟩, R1, R2, R3⟩, Hb, Ht, Hc⟩
  isplitl [Hst Ht Hc]
  · isplitl [Ht]; · iexact Ht
    isplitl [Hc]; · iexact Hc
    iexact Hst
  isplitl [Hp]; · iexact Hp
  isplitr; · iempintro
  isplitr [Hb]
  · isplitl [S0]; · iexact S0
    isplitl [S1]; · iexact S1
    isplitl [S2]; · iexact S2
    isplitl [S3]; · iexact S3
    isplitl [R0]; · iexact R0
    isplitl [R1]; · iexact R1
    isplitl [R2] <;> iassumption
  iexact Hb

omit [FloatOps F] in
theorem O₀_pos {c : Dev nD} {g : GSem nD τ sig} {u : Unit} (h : 0 < O₀ c g u) : () ∈ L g ∧ (0 : ℕ) < lv g u := by
  have key : g = recvCell 3 (nxt c) ∨ g = recvCell 2 (nxt c) ∨ g = recvCell 1 (nxt c) ∨ g = barCell (nxt c) ∨ g = barCell (prv c) := by
    unfold O₀ at h
    rw [Pi.add_apply, Finsupp.add_apply, Pi.add_apply, Finsupp.add_apply, tallyAt_apply, tallyAt_apply] at h
    by_cases h1 : 0 < D3 c g u
    · rcases D3_pos h1 with h | h | h
      · exact .inl h
      · exact .inr (.inl h)
      · exact .inr (.inr (.inl h))
    · by_cases h2 : g = barCell (nxt c)
      · exact .inr (.inr (.inr (.inl h2)))
      · by_cases h3 : g = barCell (prv c)
        · exact .inr (.inr (.inr (.inr h3)))
        · rw [if_neg (fun h => h2 h.1), if_neg (fun h => h3 h.1)] at h
          omega
  rcases key with rfl | rfl | rfl | rfl | rfl <;> refine ⟨by rw [L_tc]; exact Finset.mem_singleton_self _, ?_⟩ <;>
    first
    | (rw [lv_recv _ (by decide)]; decide)
    | (rw [lv_bar]; decide)

theorem D3_cut {c : Dev nD} {g : GSem nD τ sig} {u : Unit} (h : 0 < D3 c g u) : () ∈ L g ∧ (0 : ℕ) < lv g u := by
  rcases D3_pos h with rfl | rfl | rfl <;>
    exact ⟨by rw [L_tc]; exact Finset.mem_singleton_self _, by rw [lv_recv _ (by decide)]; decide⟩

theorem cut0 (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = owed0 t.val c := rfl
  rw [e] at h
  unfold owed0 at h
  split at h
  · exact O₀_pos h
  · split at h
    · exact absurd h (Nat.lt_irrefl 0)
    · exact D3_cut h

/-- The staging cells lie at the bottom level. -/
theorem stage_lv0 (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  have key : ∀ (w : Fin 2) (s : Fin (spec0 w).nbuf), (match role (.dma ((spec0 w).sem s)) with | .off => true | _ => false) = true := by decide
  have h := key w s
  show lv ((c : Thread nD τ), .dma ((spec0 w).sem s)) () ≤ 0
  unfold lv
  revert h
  cases role (.dma ((spec0 w).sem s)) <;> intro h <;> first | exact absurd h Bool.false_ne_true | exact Nat.le_refl 0

theorem share0 (c : Dev nD) (w : Fin (Pipeline.pin (pcfgs (F := F)) adm 0).W) : (pdats m 0 c).share w = fullShare := by
  unfold Pipeline.Dat.share
  split <;> rfl

/-- The buffers the windows of the first call do not reach. -/
abbrev others : Finset (DevRef τ sig) := Pipeline.ucRefs τ sig \ Pipeline.arrRefs (τ := τ) spec0

theorem arr0_sub : Pipeline.arrRefs (τ := τ) spec0 ⊆ Pipeline.ucRefs τ sig := by decide
theorem v1_arr0 : Proc.devRef (τ := τ) .tc main_v1 ∈ Pipeline.arrRefs (τ := τ) spec0 := by decide

theorem rest0 (c : Dev nD) : ∀ b ∈ others \ (∅ : Finset (DevRef τ sig)), W1 m c b = V0 m c b := by
  intro b hb
  rw [Finset.sdiff_empty] at hb
  refine Function.update_of_ne ?_ _ _
  rintro rfl
  exact (Finset.mem_sdiff.mp hb).2 v1_arr0

theorem W1_ne (c : Dev nD) (b : DevRef τ sig) (h : b ≠ Proc.devRef .tc main_v1) : W1 m c b = V0 m c b := Function.update_of_ne h _ _
theorem W1_v1 (c : Dev nD) : W1 m c (Proc.devRef .tc main_v1) = statArr m c := Function.update_self _ _ _

theorem exit0 (c : Dev nD) (w : Fin (Pipeline.pin (pcfgs (F := F)) adm 0).W) :
    (pdats m 0 c).arrAt w (Pipeline.pin (pcfgs (F := F)) adm 0).N
      = W1 m c (Proc.devRef .tc (Pipeline.arrRef (Pipeline.pin (pcfgs (F := F)) adm 0).spec w)) := by
  have key : ∀ w : Fin 2, (dat0 m c).arrAt w cfg0.N = W1 m c (Proc.devRef .tc (Pipeline.arrRef spec0 w)) := by
    intro w
    fin_cases w
    · refine ((dat0 m c).arrAt_in 0 rfl _).trans ?_
      exact (W1_ne m c (Proc.devRef .tc main_arg0) (by decide)).symm
    · exact (W1_v1 m c).symm
  exact key w

set_option backward.isDefEq.respectTransparency.types false in
/-- The first call's record. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    ∅ others (Finset.empty_subset _) launch0.toP rfl (fun c => (body0 m c).loose)
    (fun _ => 0) O₀ (fun _ => (zero_add _).symm)
    (fun c => by
      show owed0 (Fin.last grid0.N).val c = 0
      rw [Fin.val_last, N_0]; rfl)
    (fun _ => rfl) (share0 m)
    (V0 m) (W1 m) (rest0 m) (talkIn m) talkOut (talkOpen m) talkOut (hopen0 m) (hin0 m) (fun c => hout0 m c _)
    (fun c => by iintro H; imodintro; iexact H)
    (fun _ => 0)
    ⟨fun c w s => by rw [L_tc]; exact Finset.mem_singleton_self _, stage_lv0, fun c t g i h => cut0 m c t g i h⟩
    (fun _ => iprop(emp))
    (fun _ _ => rfl) (exit0 m)

/-! ## The second call -/

/-- The buffers after the second call. -/
abbrev W2 (c : Dev nD) : Valuation τ sig (Elt F) :=
  Function.update (W1 m c) (Proc.devRef .tc main_v2) ((dat1 m c).arrAt 3 cfg1.N)

theorem stage_lv1 (c : Dev nD) (w : Fin (Pipeline.pin (pcfgs (F := F)) adm 1).W) (s : Fin ((Pipeline.pin (pcfgs (F := F)) adm 1).win w).nbuf) :
    lv ((c : Thread nD τ), .dma (((Pipeline.pin (pcfgs (F := F)) adm 1).win w).sem s)) () ≤ 0 := by
  have key : ∀ (w : Fin 4) (s : Fin (spec1 w).nbuf), (match role (.dma ((spec1 w).sem s)) with | .off => true | _ => false) = true := by decide
  have h := key w s
  show lv ((c : Thread nD τ), .dma ((spec1 w).sem s)) () ≤ 0
  unfold lv
  revert h
  cases role (.dma ((spec1 w).sem s)) <;> intro h <;> first | exact absurd h Bool.false_ne_true | exact Nat.le_refl 0

theorem share1 (c : Dev nD) (w : Fin (Pipeline.pin (pcfgs (F := F)) adm 1).W) : (pdats m 1 c).share w = fullShare := by
  unfold Pipeline.Dat.share
  split <;> rfl

theorem W2_v2 (c : Dev nD) : W2 m c (Proc.devRef .tc main_v2) = (dat1 m c).arrAt 3 cfg1.N := Function.update_self _ _ _
theorem W2_ne (c : Dev nD) (b : DevRef τ sig) (h : b ≠ Proc.devRef .tc main_v2) : W2 m c b = W1 m c b := Function.update_of_ne h _ _
theorem W2_arg0 (c : Dev nD) : W2 m c (Proc.devRef .tc main_arg0) = m ((c : Thread nD τ).loc main_arg0) :=
  (W2_ne m c _ (by decide)).trans (W1_ne m c _ (by decide))
theorem W2_arg1 (c : Dev nD) : W2 m c (Proc.devRef .tc main_arg1) = m ((c : Thread nD τ).loc main_arg1) :=
  (W2_ne m c _ (by decide)).trans (W1_ne m c _ (by decide))

theorem exit1 (c : Dev nD) (w : Fin (Pipeline.pin (pcfgs (F := F)) adm 1).W) :
    (pdats m 1 c).arrAt w (Pipeline.pin (pcfgs (F := F)) adm 1).N
      = W2 m c (Proc.devRef .tc (Pipeline.arrRef (Pipeline.pin (pcfgs (F := F)) adm 1).spec w)) := by
  have key : ∀ w : Fin 4, (dat1 m c).arrAt w cfg1.N = W2 m c (Proc.devRef .tc (Pipeline.arrRef spec1 w)) := by
    intro w
    fin_cases w
    · refine ((dat1 m c).arrAt_in 0 rfl _).trans ?_
      exact (W2_ne m c (Proc.devRef .tc main_arg0) (by decide)).symm
    · refine ((dat1 m c).arrAt_in 1 rfl _).trans ?_
      exact (W2_ne m c (Proc.devRef .tc main_v1) (by decide)).symm
    · refine ((dat1 m c).arrAt_in 2 rfl _).trans ?_
      exact (W2_ne m c (Proc.devRef .tc main_arg1) (by decide)).symm
    · exact (W2_v2 m c).symm
  exact key w

/-- What rides past the second call: the generator's register and the barrier's counter. -/
def ride (c : Dev nD) : sProp 𝕄 := iprop((∃ r, prngReg c r) ∗ semVal (barCell c) 0)

set_option backward.isDefEq.respectTransparency.types false in
/-- The second call's record. -/
def reg1 : Pipeline.RegionSeg (pcfgs (F := F)) adm (pdats m) () defs₀ 𝒱₀ L lv 1 :=
  Pipeline.RegionSeg.ofHeld (pcfgs (F := F)) adm (pdats m) () defs₀ 𝒱₀ L lv 1 (fun _ => 0) (fun _ => iprop(emp)) (fun _ => iprop(emp))
    launch1.toP rfl (fun c => (body1 m c).loose) (fun _ _ => rfl) (fun _ => rfl) (share1 m)
    (fun c => by
      show iprop(Pipeline.scopedRest spec1 c ∗ emp) ⊢ (idle1 c : sProp 𝕄)
      unfold idle1
      iintro ⟨H, -⟩; iexact H)
    (fun c => by
      show (idle1 c : sProp 𝕄) ⊢ iprop(Pipeline.scopedRest spec1 c ∗ emp)
      unfold idle1
      iintro H
      isplitl [H]; · iexact H
      iempintro)
    (fun _ => 0)
    ⟨fun c w s => by rw [L_tc]; exact Finset.mem_singleton_self _, stage_lv1, fun _ _ _ h => absurd h (Nat.lt_irrefl 0)⟩
    ride (W1 m) (W2 m) (fun _ _ => rfl) (exit1 m)

/-! ## The states between them -/

/-- Before the first call: every buffer as launched, the rights to talk, and what it owes. -/
def before0 (c : Dev nD) : sProp 𝕄 :=
  iprop(StableHlo.held (c : Thread nD τ) (Pipeline.ucRefs τ sig) (V0 m c) ∗ (talkIn m c ∗ (∃ r, prngReg c r) ∗ ∃ W, owes (c : Thread nD τ) (O₀ c) W))
def between (c : Dev nD) : sProp 𝕄 :=
  iprop(StableHlo.held (c : Thread nD τ) (Pipeline.ucRefs τ sig) (W1 m c) ∗ (ride c ∗ ∃ W, owes (c : Thread nD τ) (0 : CellTallies nD τ sig Unit) W))
def atExit (c : Dev nD) : sProp 𝕄 :=
  iprop(StableHlo.held (c : Thread nD τ) (Pipeline.ucRefs τ sig) (W2 m c) ∗ semVal (barCell c) 0)

theorem reg0_pre (c : Dev nD) : before0 m c ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) others (V0 m c) ∗ emp) ∗ talkIn m c ∗ ∃ Wd, owes (c : Thread nD τ) (0 + O₀ c) Wd)
  unfold before0
  rw [StableHlo.held_sub_split (c : Thread nD τ) arr0_sub (V0 m c), zero_add]
  iintro ⟨⟨Ha, Ho⟩, Ht, Hp, HO⟩
  isplitl [Ha]; · iexact Ha
  isplitl [Hp]; · iexact Hp
  isplitl [Ho]
  · isplitl [Ho]; · iexact Ho
    iempintro
  isplitl [Ht]; · iexact Ht
  iexact HO

theorem reg0_post (c : Dev nD) : (reg0 m).post c ⊢ between m c := by
  show iprop(StableHlo.held (c.tc : Thread nD τ) (Pipeline.arrRefs (τ := τ) spec0) (W1 m c) ∗ (∃ r, prngReg c r)
    ∗ (StableHlo.held (c.tc : Thread nD τ) others (W1 m c) ∗ emp) ∗ talkOut c ∗ ∃ Wd, owes (c : Thread nD τ) (0 : CellTallies nD τ sig Unit) Wd) ⊢ _
  unfold between ride
  rw [StableHlo.held_sub_split (c : Thread nD τ) arr0_sub (W1 m c)]
  iintro ⟨Ha, Hp, ⟨Ho, -⟩, Hb, HO⟩
  isplitl [Ha Ho]; · isplitl [Ha] <;> iassumption
  isplitl [Hp Hb]; · isplitl [Hp] <;> iassumption
  iexact HO

theorem arr1_all : Pipeline.arrRefs (τ := τ) spec1 = Pipeline.ucRefs τ sig := by decide

theorem reg1_pre (c : Dev nD) : between m c ⊢ (reg1 m).pre c := by
  show _ ⊢ iprop(StableHlo.held (c.tc : Thread nD τ) (Pipeline.arrRefs (τ := τ) spec1) (W1 m c) ∗ emp ∗ ride c
    ∗ ∃ Wd, owes (c : Thread nD τ) (0 : CellTallies nD τ sig Unit) Wd)
  rw [arr1_all]
  unfold between
  iintro ⟨Ha, Hr, HO⟩
  isplitl [Ha]; · iexact Ha
  isplitr; · iempintro
  isplitl [Hr]; · iexact Hr
  iexact HO

theorem reg1_post (c : Dev nD) :
    (reg1 m).post c ⊢ iprop(atExit m c ∗ ∃ W, owes (c : Thread nD τ) (0 : CellTallies nD τ sig Unit) W) := by
  show iprop(StableHlo.held (c.tc : Thread nD τ) (Pipeline.arrRefs (τ := τ) spec1) (W2 m c) ∗ emp ∗ ride c
    ∗ ∃ Wd, owes (c : Thread nD τ) (0 : CellTallies nD τ sig Unit) Wd) ⊢ _
  rw [arr1_all]
  unfold atExit ride
  iintro ⟨Ha, -, ⟨-, Hb⟩, HO⟩
  isplitl [Ha Hb]; · isplitl [Ha] <;> iassumption
  iexact HO

end Cert.KernelIdeal.Stats

end
-- ==== Proof.Ideal.Run.lean ====
/-
  The launch: every cell's invariant made, the cells of the first call unopened, and everything handed to the device that
  uses it; then the run of the whole program on the four devices.
-/
module

public import proofs.«01_k».proof.Proof.Ideal.Segs

@[expose] public section

noncomputable section

namespace Cert.KernelIdeal.Stats

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The semaphores of the first call that a cell of the protocol lies on. -/
abbrev cellSem : Fin 6 → SemLoc sig := fun
  | 0 => .dma (sendS 0) | 1 => .dma (sendS 1) | 2 => .dma (sendS 2)
  | 3 => .dma (recvS 1) | 4 => .dma (recvS 2) | 5 => .dma (recvS 3)
theorem cellSem_inj : Function.Injective cellSem := by decide
theorem cellSem_dma : ∀ k : Fin 6, cellSem k ≠ .reg barS := by decide

def barEmb : Dev nD ↪ GSem nD τ sig := ⟨fun c => barCell c, fun _ _ h => congrArg (fun g : GSem nD τ sig => g.1.1) h⟩
def copyEmb : Dev nD × Fin 6 ↪ GSem nD τ sig :=
  ⟨fun x => ((x.1 : Thread nD τ), cellSem x.2), fun _ _ h =>
    Prod.ext (congrArg (fun g : GSem nD τ sig => g.1.1) h) (cellSem_inj (congrArg Prod.snd h))⟩

abbrev barCells : Finset (GSem nD τ sig) := Finset.univ.map barEmb
abbrev copyCells : Finset (GSem nD τ sig) := Finset.univ.map copyEmb

/-- The duties of one device's cells: two on the barrier, one on each of the other six. -/
abbrev tokSem : Fin 8 → SemLoc sig × Bool := fun
  | 0 => (.reg barS, true) | 1 => (.reg barS, false)
  | 2 => (.dma (sendS 0), false) | 3 => (.dma (sendS 1), false) | 4 => (.dma (sendS 2), false)
  | 5 => (.dma (recvS 1), false) | 6 => (.dma (recvS 2), false) | 7 => (.dma (recvS 3), false)
theorem tokSem_inj : Function.Injective tokSem := by decide
def tokens : Finset (GSem nD τ sig × ℕ × Bool) :=
  Finset.univ.map ⟨fun x : Dev nD × Fin 8 => (((x.1 : Thread nD τ), (tokSem x.2).1), 0, (tokSem x.2).2), fun _ _ h =>
    Prod.ext (congrArg (fun t : GSem nD τ sig × ℕ × Bool => t.1.1.1) h)
      (tokSem_inj (Prod.ext (congrArg (fun t : GSem nD τ sig × ℕ × Bool => t.1.2) h) (congrArg (fun t : GSem nD τ sig × ℕ × Bool => t.2.2) h)))⟩

theorem bar_not_copy : Disjoint (barCells : Finset (GSem nD τ sig)) copyCells := by
  rw [Finset.disjoint_left]
  rintro g h₁ h₂
  obtain ⟨c, -, rfl⟩ := Finset.mem_map.mp h₁
  obtain ⟨x, -, h⟩ := Finset.mem_map.mp h₂
  exact cellSem_dma x.2 (congrArg Prod.snd h)

/-- Every cell of the protocol is one of these. -/
theorem cells_sub : cells ⊆ (barCells ∪ copyCells : Finset (GSem nD τ sig)) := by
  intro g hg
  obtain ⟨c, -, h⟩ := Finset.mem_biUnion.mp hg
  have hc (k : Fin 6) : ((c : Thread nD τ), cellSem k) ∈ (barCells ∪ copyCells : Finset (GSem nD τ sig)) :=
    Finset.mem_union_right _ (Finset.mem_map_of_mem copyEmb (Finset.mem_univ (c, k)))
  simp only [Finset.mem_insert, Finset.mem_singleton] at h
  rcases h with rfl | rfl | rfl | rfl | rfl | rfl | rfl
  · exact Finset.mem_union_left _ (Finset.mem_map_of_mem barEmb (Finset.mem_univ c))
  · exact hc 0
  · exact hc 1
  · exact hc 2
  · exact hc 3
  · exact hc 4
  · exact hc 5

/-! ## The launch element -/

/-- The staging cells' part, and the protocol's. -/
def u₀ : UU :=
  (initOf (Pipeline.cells (Pipeline.pin (pcfgs (F := F)) adm) cellOf_inj) (Pipeline.launchToks (Pipeline.pin (pcfgs (F := F)) adm) cellOf_inj),
    launchOf barCells copyCells tokens)

/-- A resource parked whole on device 0. -/
def parked (X : sProp 𝕄) (c : Dev nD) : sProp 𝕄 := if c = 0 then X else iprop(emp)
omit [FloatOps F] in
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked (BI.own (ER (launchOf barCells copyCells tokens)))

/-- What every device may consult: the invariants under one map of names, and that round 0 of every barrier is reached. -/
def records (κ : GSem nD τ sig → ℕ) : sProp 𝕄 :=
  iprop((bigSep (barCells ∪ copyCells) fun g => cellInv ER (rd m) (κ g) g) ∗ bigSep barCells fun g => reached ER g 0)
instance records_persistent (κ : GSem nD τ sig → ℕ) : BI.Persistent (records m κ) := by unfold records; infer_instance

/-- What goes to device `c` alone. -/
def share (c : Dev nD) : sProp 𝕄 :=
  iprop(atPos ER (barCell c) 0 ∅ 0
    ∗ (openTok ER (sendCell 0 c) ∗ openTok ER (sendCell 1 c) ∗ openTok ER (sendCell 2 c)
      ∗ openTok ER (recvCell 1 c) ∗ openTok ER (recvCell 2 c) ∗ openTok ER (recvCell 3 c))
    ∗ (dutyTok ER (barCell (prv c)) 0 true ∗ dutyTok ER (barCell (nxt c)) 0 false
      ∗ dutyTok ER (sendCell 0 c) 0 false ∗ dutyTok ER (sendCell 1 c) 0 false ∗ dutyTok ER (sendCell 2 c) 0 false
      ∗ dutyTok ER (recvCell 1 (nxt c)) 0 false ∗ dutyTok ER (recvCell 2 (nxt c)) 0 false ∗ dutyTok ER (recvCell 3 (nxt c)) 0 false))

omit [FloatOps F] in
theorem reached_bar (c : Dev nD) : (bigSep barCells fun g => (reached ER g 0 : sProp 𝕄)) ⊢ reached ER (barCell c) 0 :=
  bigSep_elim (Finset.mem_map_of_mem barEmb (Finset.mem_univ c))

theorem invs_all (κ : GSem nD τ sig → ℕ) :
    (bigSep (barCells ∪ copyCells) fun g => (cellInv ER (rd m) (κ g) g : sProp 𝕄)) ⊢ bigSep cells fun g => cellInv ER (rd m) (κ g) g :=
  BI.bigSep_subset cells_sub

theorem seed_intro (κ : GSem nD τ sig → ℕ) (c : Dev nD) : iprop(records m κ ∗ share c) ⊢ iprop(∃ K, seed m K c) := by
  unfold records share seed
  iintro ⟨⟨#HI, #HR⟩, Ha, ⟨O0, O1, O2, P1, P2, P3⟩, T0, T1, S0, S1, S2, R1, R2, R3⟩
  iexists κ
  isplitr
  · unfold invs
    iapply (invs_all m κ); iexact HI
  isplitl [Ha]; · iexact Ha
  isplitl [O0 O1 O2]
  · isplitl [O0]; · iexact O0
    isplitl [O1] <;> iassumption
  isplitl [P1 P2 P3]
  · isplitl [P1]; · iexact P1
    isplitl [P2] <;> iassumption
  isplitr
  · isplitr; · iapply (reached_bar (prv c)); iexact HR
    iapply (reached_bar (nxt c)); iexact HR
  isplitl [T0 T1]; · isplitl [T0] <;> iassumption
  isplitl [S0 S1 S2]
  · isplitl [S0]; · iexact S0
    isplitl [S1] <;> iassumption
  isplitl [R1]; · iexact R1
  isplitl [R2] <;> iassumption

/-- The tokens of one device's own cells. -/
def toks (c : Dev nD) : sProp 𝕄 :=
  iprop(dutyTok ER (barCell c) 0 true ∗ dutyTok ER (barCell c) 0 false
    ∗ dutyTok ER (sendCell 0 c) 0 false ∗ dutyTok ER (sendCell 1 c) 0 false ∗ dutyTok ER (sendCell 2 c) 0 false
    ∗ dutyTok ER (recvCell 1 c) 0 false ∗ dutyTok ER (recvCell 2 c) 0 false ∗ dutyTok ER (recvCell 3 c) 0 false)

omit [FloatOps F] in
theorem toks_eq : bigSep tokens (fun x => (dutyTok ER x.1 x.2.1 x.2.2 : sProp 𝕄)) = bigSep Finset.univ fun c : Dev nD => toks c := by
  unfold tokens; rw [bigSep_map, bigSep_univ_prod]
  exact bigSep_congr fun c _ => by
    unfold toks
    rw [bigSep_univ_eq_bigSepL [(0 : Fin 8), 1, 2, 3, 4, 5, 6, 7] (by decide) (by decide)]
    rfl

omit [FloatOps F] in
/-- Each token goes to the device that pays its duty. -/
theorem toks_around :
    (bigSep Finset.univ fun c : Dev nD => (toks c : sProp 𝕄))
      ⊢ bigSep Finset.univ fun c : Dev nD => iprop(dutyTok ER (barCell (prv c)) 0 true ∗ dutyTok ER (barCell (nxt c)) 0 false
        ∗ dutyTok ER (sendCell 0 c) 0 false ∗ dutyTok ER (sendCell 1 c) 0 false ∗ dutyTok ER (sendCell 2 c) 0 false
        ∗ dutyTok ER (recvCell 1 (nxt c)) 0 false ∗ dutyTok ER (recvCell 2 (nxt c)) 0 false ∗ dutyTok ER (recvCell 3 (nxt c)) 0 false) := by
  unfold toks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (dutyTok ER (recvCell 1 c) 0 false : sProp 𝕄)),
    bigSep_univ_equiv ring (fun c : Dev nD => (dutyTok ER (recvCell 2 c) 0 false : sProp 𝕄)),
    bigSep_univ_equiv ring (fun c : Dev nD => (dutyTok ER (recvCell 3 c) 0 false : sProp 𝕄))]
  exact BI.Entails.refl _

/-! ## The credits -/

/-- What device `d` owes at launch, as numbers of its neighbours' cells. -/
theorem at_cell (d c : Dev nD) (a b : SemLoc sig) (n : ℕ) :
    (tallyAt ((d : Thread nD τ), a) () n : CellTallies nD τ sig Unit) ((c : Thread nD τ), b) () = if d = c ∧ a = b then n else 0 := by
  rw [tallyAt_apply]
  by_cases h : d = c ∧ a = b
  · obtain ⟨rfl, rfl⟩ := h
    rw [if_pos ⟨rfl, rfl⟩, if_pos ⟨rfl, rfl⟩]
  · rw [if_neg h, if_neg]
    rintro ⟨h1, -⟩
    exact h ⟨(congrArg (fun g : GSem nD τ sig => g.1.1) h1).symm, (congrArg Prod.snd h1).symm⟩

theorem owed_at (d c : Dev nD) (b : SemLoc sig) :
    O₀ d ((c : Thread nD τ), b) ()
      = ((((if nxt d = c ∧ SemLoc.dma (recvS 3) = b then N else 0) + (if nxt d = c ∧ SemLoc.dma (recvS 2) = b then N else 0))
        + (if nxt d = c ∧ SemLoc.dma (recvS 1) = b then N else 0)) + (if nxt d = c ∧ SemLoc.reg barS = b then 1 else 0))
        + (if prv d = c ∧ SemLoc.reg barS = b then 1 else 0) := by
  unfold O₀ D3 D2 D1
  simp only [Pi.add_apply, Finsupp.add_apply, at_cell]

theorem nxt_iff (d c : Dev nD) : nxt d = c ↔ d = prv c :=
  ⟨fun h => by rw [← h, prv_nxt], fun h => by rw [h, nxt_prv]⟩
theorem prv_iff (d c : Dev nD) : prv d = c ↔ d = nxt c :=
  ⟨fun h => by rw [← h, nxt_prv], fun h => by rw [h, prv_nxt]⟩

theorem owed_bar (d c : Dev nD) : O₀ d (barCell c) () = (if d = prv c then 1 else 0) + (if d = nxt c then 1 else 0) := by
  rw [owed_at, if_neg (fun h => absurd h.2 (by decide)), if_neg (fun h => absurd h.2 (by decide)), if_neg (fun h => absurd h.2 (by decide))]
  simp only [nxt_iff, prv_iff, and_true, Nat.zero_add]

theorem owed_recv1 (d c : Dev nD) : O₀ d (recvCell 1 c) () = if d = prv c then N else 0 := by
  rw [owed_at, if_neg (fun h => absurd h.2 (by decide)), if_neg (fun h => absurd h.2 (by decide)),
    if_neg (c := nxt d = c ∧ SemLoc.reg barS = _) (fun h => absurd h.2 (by decide)), if_neg (c := prv d = c ∧ _) (fun h => absurd h.2 (by decide))]
  simp only [nxt_iff, and_true, Nat.zero_add, Nat.add_zero]
theorem owed_recv2 (d c : Dev nD) : O₀ d (recvCell 2 c) () = if d = prv c then N else 0 := by
  rw [owed_at, if_neg (c := _ ∧ SemLoc.dma (recvS 3) = _) (fun h => absurd h.2 (by decide)), if_neg (c := _ ∧ SemLoc.dma (recvS 1) = _) (fun h => absurd h.2 (by decide)),
    if_neg (c := nxt d = c ∧ SemLoc.reg barS = _) (fun h => absurd h.2 (by decide)), if_neg (c := prv d = c ∧ _) (fun h => absurd h.2 (by decide))]
  simp only [nxt_iff, and_true, Nat.zero_add, Nat.add_zero]
theorem owed_recv3 (d c : Dev nD) : O₀ d (recvCell 3 c) () = if d = prv c then N else 0 := by
  rw [owed_at, if_neg (c := _ ∧ SemLoc.dma (recvS 2) = _) (fun h => absurd h.2 (by decide)), if_neg (c := _ ∧ SemLoc.dma (recvS 1) = _) (fun h => absurd h.2 (by decide)),
    if_neg (c := nxt d = c ∧ SemLoc.reg barS = _) (fun h => absurd h.2 (by decide)), if_neg (c := prv d = c ∧ _) (fun h => absurd h.2 (by decide))]
  simp only [nxt_iff, and_true, Nat.zero_add, Nat.add_zero]

/-- A cell's credit at launch is the sum of what the devices owe it. -/
theorem credit_at (c : Dev nD) (b : SemLoc sig) (n : ℕ) (h : ∑ d : Dev nD, O₀ d ((c : Thread nD τ), b) () = n) :
    tallyOn ((c : Thread nD τ), b) (launchCredit (Pipeline.owing O₀) 0 ((c : Thread nD τ), b))
      = (tallyAt ((c : Thread nD τ), b) () n : CellTallies nD τ sig Unit) := by
  unfold tallyAt; refine congrArg _ (Finsupp.ext fun u => ?_); cases u
  rw [Pipeline.launchCredit_owing, Finsupp.single_eq_same, h]

theorem credit_bar (c : Dev nD) : ∑ d : Dev nD, O₀ d (barCell c) () = 2 := by
  rw [Finset.sum_congr rfl fun d _ => owed_bar d c, Finset.sum_add_distrib, Finset.sum_ite_eq', Finset.sum_ite_eq', if_pos (Finset.mem_univ _),
    if_pos (Finset.mem_univ _)]
theorem credit_recv1 (c : Dev nD) : ∑ d : Dev nD, O₀ d (recvCell 1 c) () = N := by
  rw [Finset.sum_congr rfl fun d _ => owed_recv1 d c, Finset.sum_ite_eq', if_pos (Finset.mem_univ _)]
theorem credit_recv2 (c : Dev nD) : ∑ d : Dev nD, O₀ d (recvCell 2 c) () = N := by
  rw [Finset.sum_congr rfl fun d _ => owed_recv2 d c, Finset.sum_ite_eq', if_pos (Finset.mem_univ _)]
theorem credit_recv3 (c : Dev nD) : ∑ d : Dev nD, O₀ d (recvCell 3 c) () = N := by
  rw [Finset.sum_congr rfl fun d _ => owed_recv3 d c, Finset.sum_ite_eq', if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), credit_at c _ _ (credit_bar c)]
  refine sep_mono_right ?_
  rw [← credit_at c _ _ (credit_recv1 c), ← credit_at c _ _ (credit_recv2 c), ← credit_at c _ _ (credit_recv3 c)]
  rw [BI.bigSep_erase (i := SemLoc.dma (recvS 1)) (Finset.mem_erase.mpr ⟨by decide, Finset.mem_univ _⟩)]
  refine sep_mono_right ?_
  rw [BI.bigSep_erase (i := SemLoc.dma (recvS 2)) (Finset.mem_erase.mpr ⟨by decide, Finset.mem_erase.mpr ⟨by decide, Finset.mem_univ _⟩⟩)]
  refine sep_mono_right ?_
  exact bigSep_elim (Finset.mem_erase.mpr ⟨by decide, Finset.mem_erase.mpr ⟨by decide, Finset.mem_erase.mpr ⟨by decide, Finset.mem_univ _⟩⟩⟩)

/-! ## The run -/

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-- What of a device's launch is not the protocol's. -/
def rest (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem before0_intro (κ : GSem nD τ sig → ℕ) (c : Dev nD) : iprop(records m κ ∗ (share c ∗ rest m c)) ⊢ before0 m c := by
  unfold rest before0 talkIn
  iintro ⟨#HR, Hl, Hh, Hc, HO, Hp⟩
  isplitl [Hh]; · iexact Hh
  isplitl [Hl Hc]
  · isplitl [Hl]
    · iapply (seed_intro m κ c)
      isplitr; · iexact HR
      iexact Hl
    iexact Hc
  isplitl [Hp]; · iexact Hp
  iexists ∅; iexact HO

omit [FloatOps F] in
/-- Two resources on every device, and one resource of two on every device. -/
theorem both (Φ Ψ : Dev nD → sProp 𝕄) :
    iprop(bigSep Finset.univ Φ ∗ bigSep Finset.univ Ψ) ⊢ bigSep Finset.univ fun c => iprop(Φ c ∗ Ψ c) :=
  Entails.of_eq (bigSep_sep' _ _ _).symm
omit [FloatOps F] in
theorem apart (Φ Ψ : Dev nD → sProp 𝕄) :
    (bigSep Finset.univ fun c => iprop(Φ c ∗ Ψ c)) ⊢ iprop(bigSep Finset.univ Φ ∗ bigSep Finset.univ Ψ) :=
  Entails.of_eq (bigSep_sep' _ _ _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (before0 m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) (Pipeline.ucRefs τ sig) (V0 m c) from
        Pipeline.unscopedBufs_held c (V0 m c), unscopedSems0_eq]
    unfold rest
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => iprop(openTok ER (sendCell 0 c) ∗ openTok ER (sendCell 1 c) ∗ openTok ER (sendCell 2 c)
        ∗ openTok ER (recvCell 1 c) ∗ openTok ER (recvCell 2 c) ∗ openTok ER (recvCell 3 c))) :=
    Entails.of_eq (by
      rw [bigSep_map, bigSep_univ_prod]
      exact bigSep_congr fun c _ => by
        rw [bigSep_univ_eq_bigSepL [(0 : Fin 6), 1, 2, 3, 4, 5] (by decide) (by decide)]
        rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barCell c) 0 ∗ G c)) : sProp 𝕄) from bigSep_mono fun c _ => hcore c) $$ H
  ihave H2 := (apart (rest m) (fun c => iprop(semVal (barCell c) 0 ∗ G c))) $$ H'; icases H2 with ⟨HB, H3⟩
  ihave H4 := (apart (fun c => semVal (barCell c) 0) G) $$ H3; icases H4 with ⟨Hv, HG⟩
  ihave Hu := (show bigSep Finset.univ (G (F := F)) ⊢ BI.own (ER (launchOf barCells copyCells tokens)) from
    Entails.of_eq (bigSep_parked (F := F) (BI.own (ER (launchOf barCells copyCells tokens))))) $$ HG
  imod (Rounds.fund_launch ER (rd m) bar_not_copy (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share c ∗ rest m c)) fun c _ => before0_intro m κ c)
  isplitr
  · unfold records
    isplitr; · iexact Hinv
    iexact Hr
  iapply (both _ _)
  isplitr [HB]
  · unfold share
    iapply (both _ _); isplitl [Hat]; · iapply hat $$ Hat
    iapply (both _ _); isplitl [Hopen]; · iapply hopen $$ Hopen
    iapply (toks_around (F := F))
    iapply (Entails.of_eq (toks_eq (F := F))) $$ Htok
  · iexact HB

/-- What a device's memory holds at the end. -/
def left (c : Dev nD) (s : MemSt nD τ sig (Elt F)) : Prop :=
  (s.mem ((c : Thread nD τ).loc main_v2) = (dat1 m c).arrAt 3 cfg1.N
    ∧ s.mem ((c : Thread nD τ).loc main_arg0) = m ((c : Thread nD τ).loc main_arg0)
    ∧ s.mem ((c : Thread nD τ).loc main_arg1) = m ((c : Thread nD τ).loc main_arg1))

set_option backward.isDefEq.respectTransparency.types false in
/-- Every run of the program from a memory with all counters at zero ends, with the result the second call's data names, the
    arguments as launched and every counter at zero. -/
theorem run_main : θ_run defs (onTc (τ := τ) (main (F := F))) ⟨m, fun _ => 0, ρ⟩
    (fun r => (∀ c : Dev nD, left m c r.2) ∧ r.2.sem = fun _ => 0) :=
  Pipeline.θ_run_regions_kit_sems (pcfgs (F := F)) adm (pdats m) () cellOf_inj EP defs₀ 𝒱₀ L lv m ρ main
    [.region (reg0 m), .region (reg1 m)]
    (fun c Q => by rw [main_segs adm (pdats m) () 𝒱₀ L lv (reg0 m) (reg1 m) c])
    (by simp only [Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_parked]; iexact HX)
    (T₀ := before0 m) (Tₙ := atExit m)
    (hch := ⟨fun c => reg0_pre m c, fun c => (reg0_post m c).trans (reg1_pre m c), fun c => reg1_post m c⟩)
    (hinit := init m ρ)
    (QY := fun c s => left m c s ∧ s.sem (barCell c) = 0)
    (hfin := fun c s' => by
      unfold atExit StableHlo.held
      iintro ⟨⟨Hh, Hb⟩, HSI⟩
      icombine HSI Hb gives %hb
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        refine ⟨⟨?_, ?_, ?_⟩, by simpa using hb⟩
        · exact (h (Proc.devRef .tc main_v2) (by decide)).trans (W2_v2 m c)
        · exact (h (Proc.devRef .tc main_arg0) (by decide)).trans (W2_arg0 m c)
        · exact (h (Proc.devRef .tc main_arg1) (by decide)).trans (W2_arg1 m c)
      iexact HSI)
    (hQ := fun s h hs => ⟨fun c => (h c).1,
      sem_eq_zero hs fun c sm hsm => by
        obtain rfl := unscoped_eq sm hsm
        exact (h c).2⟩)

end Cert.KernelIdeal.Stats

end
-- ==== Proof.Ideal.Tile.lean ====
/-
  The arithmetic of the two bodies read at an index over the extended reals: a block's sum over its rows and columns, the
  addition of two tables of totals, the scaling of the totals to means and reciprocal deviations, and one element of the
  block that the second call stores.
-/
module

public import proofs.«01_k».proof.Proof.Ideal.Region1
public import Idealize.ShloMosaic.Lib.Pointwise

@[expose] public section

set_option maxRecDepth 16384

noncomputable section

namespace Cert.KernelIdeal.Stats

open Cert.KernelIdeal Cert.KernelIdeal.Gen
open Idealize.ShloMosaic

/-- The sum of a block over its rows and columns, per channel. -/
theorem pay9_at (x : Vec Ideal S1x64x256x128 .f32) (k : Fin 128) :
    k0_pay9 x (ix1 k) = ∑ w : Fin 256, ∑ h : Fin 64, (x (ix4 0 h w k) : EReal) := by
  pointwise [k0_pay9, k0_pay8]

/-- The sum of a block's squares. -/
theorem pay10_at (x : Vec Ideal S1x64x256x128 .f32) (k : Fin 128) :
    k0_pay10 x (ix1 k) = ∑ w : Fin 256, ∑ h : Fin 64, (x (ix4 0 h w k) * x (ix4 0 h w k) : EReal) := by
  pointwise [k0_pay10, k0_pay8]

theorem pay11_at (x : Vec Ideal S1x64x256x128 .f32) (v : Vec Ideal S1x128 .f32) (k : Fin 128) :
    k0_pay11 x v (ix2 0 k) = (v (ix2 0 k) + ∑ w : Fin 256, ∑ h : Fin 64, x (ix4 0 h w k) : EReal) := by
  rw [← pay9_at]; pointwise [k0_pay11]
theorem pay13_at (x : Vec Ideal S1x64x256x128 .f32) (v : Vec Ideal S1x128 .f32) (k : Fin 128) :
    k0_pay13 x v (ix2 0 k) = (v (ix2 0 k) + ∑ w : Fin 256, ∑ h : Fin 64, x (ix4 0 h w k) : EReal) := by
  rw [← pay9_at]; pointwise [k0_pay13]
theorem pay12_at (x : Vec Ideal S1x64x256x128 .f32) (v : Vec Ideal S1x128 .f32) (k : Fin 128) :
    k0_pay12 x v (ix2 0 k) = (v (ix2 0 k) + ∑ w : Fin 256, ∑ h : Fin 64, x (ix4 0 h w k) * x (ix4 0 h w k) : EReal) := by
  rw [← pay10_at]; pointwise [k0_pay12]
theorem pay14_at (x : Vec Ideal S1x64x256x128 .f32) (v : Vec Ideal S1x128 .f32) (k : Fin 128) :
    k0_pay14 x v (ix2 0 k) = (v (ix2 0 k) + ∑ w : Fin 256, ∑ h : Fin 64, x (ix4 0 h w k) * x (ix4 0 h w k) : EReal) := by
  rw [← pay10_at]; pointwise [k0_pay14]

/-- A hop of the ring adds the arriving totals. -/
theorem hop_at1 (a b : Vec Ideal S8x128 .f32) (j : S8x128.Idx) : k0_pay2 a (k0_pay1 b) j = (a j + b j : EReal) := by
  pointwise [k0_pay2, k0_pay1]
theorem hop_at2 (a b : Vec Ideal S8x128 .f32) (j : S8x128.Idx) : k0_pay3 a (k0_pay1 b) j = (a j + b j : EReal) := by
  pointwise [k0_pay3, k0_pay1]
theorem hop_at3 (a b : Vec Ideal S8x128 .f32) (j : S8x128.Idx) : k0_pay4 a (k0_pay1 b) j = (a j + b j : EReal) := by
  pointwise [k0_pay4, k0_pay1]

/-- The totals start at zero. -/
theorem pay7_at (j : S8x128.Idx) : k0_pay7 (F := Ideal) j = (0 : EReal) := by
  pointwise [k0_pay7]

/-- The kernel's literals: one over the number of summands, and the small constant under the root. -/
abbrev cN : EReal := Ideal.ofBits .f32 0x36800000#32
abbrev cE : EReal := Ideal.ofBits .f32 0x3727C5AC#32

/-- The means, from the totals. -/
theorem pay5_at (v : Vec Ideal S8x128 .f32) (b : Fin 2) (k : Fin 128) :
    k0_pay5 v (ix2 b k) = (v (ix2 ⟨b.val, by omega⟩ k) * cN : EReal) := by
  pointwise [k0_pay5]

/-- The reciprocal deviations, from the totals. -/
theorem pay6_at (v : Vec Ideal S8x128 .f32) (b : Fin 2) (k : Fin 128) :
    k0_pay6 v (ix2 b k) = Ideal.rsqrt (v (ix2 ⟨2 + b.val, by omega⟩ k) * cN
      - v (ix2 ⟨b.val, by omega⟩ k) * cN * (v (ix2 ⟨b.val, by omega⟩ k) * cN) + cE) := by
  pointwise [k0_pay6, k0_pay5]

/-- One element of a block the second call stores, of the means and reciprocal deviations it read. -/
def swish (x μ ρ : EReal) : EReal :=
  Ideal.div ((x - μ) * ρ) (1 + Ideal.exp (0 - (x - μ) * ρ))

theorem apply_at (i : grid1.Coords) (u0 u1 u2 u3 : Vec Ideal S1x128 .f32) (X : Vec Ideal S1x32x256x128 .f32) (P : Vec Ideal S128x256 .f32)
    (h : Fin 32) (w : Fin 256) (o : Fin 256) :
    k1_pay1 (k1_pay2 i u0 u1 u2 u3 X P) (ix4 0 h w o)
      = ∑ k : Fin 128, swish (X (ix4 0 h w k))
          (Scalar.select (Scalar.cmpi .eq (BitVec.ofNat 32 (i 0).val) 0#32) (u0 (ix2 0 k)) (u1 (ix2 0 k)))
          (Scalar.select (Scalar.cmpi .eq (BitVec.ofNat 32 (i 0).val) 0#32) (u2 (ix2 0 k)) (u3 (ix2 0 k)))
          * (P (ix2 k o) : EReal) := by
  pointwise [k1_pay1, k1_pay2, swish]

end Cert.KernelIdeal.Stats
-- ==== Proof.Ideal.Sums.lean ====
/-
  The totals over the extended reals: what one device's eight points leave in each row, and what the ring's three hops
  make of the four devices' totals.
-/
module

public import proofs.«01_k».proof.Proof.Ideal.Tile

@[expose] public section

set_option maxRecDepth 16384

noncomputable section

namespace Cert.KernelIdeal.Stats

open Cert.KernelIdeal Cert.KernelIdeal.Gen
open Idealize.ShloMosaic

/-- A block's sum, and the sum of its squares, at one channel. -/
def tileSum (x : Vec Ideal S1x64x256x128 .f32) (k : Fin 128) : EReal := ∑ w : Fin 256, ∑ h : Fin 64, x (ix4 0 h w k)
def tileSq (x : Vec Ideal S1x64x256x128 .f32) (k : Fin 128) : EReal :=
  ∑ w : Fin 256, ∑ h : Fin 64, x (ix4 0 h w k) * x (ix4 0 h w k)

/-- A row of the totals as a load reads it. -/
theorem row_load (r : Fin 8) (inb : ∀ a, (![r.val, 0] : Fin 2 → ℕ) a + S1x128.size a ≤ S8x128.size a) (f : Vec Ideal S8x128 .f32) (k : Fin 128) :
    totM.view.readAt (Elt Ideal) (Rect.unit (s := S8x128) ![r.val, 0] S1x128.size inb).toLoadRect f (ix2 0 k) = f (ix2 r k) := by
  show f _ = _
  congr 1
  funext a
  apply Fin.ext
  fin_cases a
  · show r.val + 1 * 0 = r.val
    omega
  · show 0 + 1 * k.val = k.val
    omega

/-- A row of the totals after a store to it; another row. -/
theorem row_store (r : Fin 8) (inb : ∀ a, (![r.val, 0] : Fin 2 → ℕ) a + S1x128.size a ≤ S8x128.size a) (f : Vec Ideal S8x128 .f32)
    (w : Vec Ideal S1x128 .f32) (k : Fin 128) :
    totM.view.writes (Elt Ideal) f [⟨Rect.unit (s := S8x128) ![r.val, 0] S1x128.size inb, w⟩] (ix2 r k) = w (ix2 0 k) := by
  refine (congrFun (View.read_whole (Val := Elt Ideal) cc0_scratch0 _) (ix2 r k)).symm.trans ?_
  refine View.read_writes_cons_hit_of_coords totM.view f (Rect.unit (s := S8x128) ![r.val, 0] S1x128.size inb) w []
    (ix2 0 k : S1x128.Idx) (ix2 r k) fun a => ?_
  fin_cases a
  · show r.val = r.val + 1 * 0
    omega
  · show k.val = 0 + 1 * k.val
    omega
theorem row_keep (r s : Fin 8) (hrs : s ≠ r) (inb : ∀ a, (![r.val, 0] : Fin 2 → ℕ) a + S1x128.size a ≤ S8x128.size a) (f : Vec Ideal S8x128 .f32)
    (w : Vec Ideal S1x128 .f32) (k : Fin 128) :
    totM.view.writes (Elt Ideal) f [⟨Rect.unit (s := S8x128) ![r.val, 0] S1x128.size inb, w⟩] (ix2 s k) = f (ix2 s k) := by
  refine (congrFun (View.read_whole (Val := Elt Ideal) cc0_scratch0 _) (ix2 s k)).symm.trans ?_
  refine (View.read_writes_cons_miss_of_axis totM.view f _ [] (ix2 s k) 0 r.val 1 rfl rfl rfl ?_).trans ?_
  · show s.val < r.val ∨ r.val + 1 ≤ s.val
    have : s.val ≠ r.val := fun h => hrs (Fin.ext h)
    omega
  · rfl

theorem acc0_0 (x : Vec Ideal S1x64x256x128 .f32) (f : Vec Ideal S8x128 .f32) (k : Fin 128) :
    acc0 x f (ix2 0 k) = (f (ix2 0 k) + tileSum x k : EReal) := by
  refine (row_keep 2 0 (by decide) _ _ _ k).trans ((row_store 0 _ _ _ k).trans ?_)
  rw [pay11_at]
  exact congrArg (· + _) (row_load 0 _ f k)
theorem acc0_1 (x : Vec Ideal S1x64x256x128 .f32) (f : Vec Ideal S8x128 .f32) (k : Fin 128) : acc0 x f (ix2 1 k) = f (ix2 1 k) :=
  (row_keep 2 1 (by decide) _ _ _ k).trans (row_keep 0 1 (by decide) _ _ _ k)
theorem acc0_2 (x : Vec Ideal S1x64x256x128 .f32) (f : Vec Ideal S8x128 .f32) (k : Fin 128) :
    acc0 x f (ix2 2 k) = (f (ix2 2 k) + tileSq x k : EReal) := by
  refine (row_store 2 _ _ _ k).trans ?_
  rw [pay12_at]
  exact congrArg (· + _) ((row_load 2 _ _ k).trans (row_keep 0 2 (by decide) _ _ _ k))
theorem acc0_3 (x : Vec Ideal S1x64x256x128 .f32) (f : Vec Ideal S8x128 .f32) (k : Fin 128) : acc0 x f (ix2 3 k) = f (ix2 3 k) :=
  (row_keep 2 3 (by decide) _ _ _ k).trans (row_keep 0 3 (by decide) _ _ _ k)

theorem acc1_1 (x : Vec Ideal S1x64x256x128 .f32) (f : Vec Ideal S8x128 .f32) (k : Fin 128) :
    acc1 x f (ix2 1 k) = (f (ix2 1 k) + tileSum x k : EReal) := by
  refine (row_keep 3 1 (by decide) _ _ _ k).trans ((row_store 1 _ _ _ k).trans ?_)
  rw [pay13_at]
  exact congrArg (· + _) (row_load 1 _ f k)
theorem acc1_0 (x : Vec Ideal S1x64x256x128 .f32) (f : Vec Ideal S8x128 .f32) (k : Fin 128) : acc1 x f (ix2 0 k) = f (ix2 0 k) :=
  (row_keep 3 0 (by decide) _ _ _ k).trans (row_keep 1 0 (by decide) _ _ _ k)
theorem acc1_3 (x : Vec Ideal S1x64x256x128 .f32) (f : Vec Ideal S8x128 .f32) (k : Fin 128) :
    acc1 x f (ix2 3 k) = (f (ix2 3 k) + tileSq x k : EReal) := by
  refine (row_store 3 _ _ _ k).trans ?_
  rw [pay14_at]
  exact congrArg (· + _) ((row_load 3 _ _ k).trans (row_keep 1 3 (by decide) _ _ _ k))
theorem acc1_2 (x : Vec Ideal S1x64x256x128 .f32) (f : Vec Ideal S8x128 .f32) (k : Fin 128) : acc1 x f (ix2 2 k) = f (ix2 2 k) :=
  (row_keep 3 2 (by decide) _ _ _ k).trans (row_keep 1 2 (by decide) _ _ _ k)

/-! ## One device's totals -/

variable (m : (ℓ : Loc nD τ sig) → Buf (Elt Ideal) ℓ)

/-- The device's operand at an index. -/
abbrev opnd (c : Dev nD) : Vec Ideal S2x256x256x128 .f32 := m ((c.tc : Thread nD τ).loc main_arg0)

/-- Point `t`'s block of the operand: 64 rows of one image. -/
theorem xblk_at (c : Dev nD) (t : Fin cfg0.N) (h : Fin 64) (w : Fin 256) (k : Fin 128) :
    xblk m c t (ix4 0 h w k)
      = opnd m c (ix4 ⟨t.val / 4, by have := t.isLt; have : cfg0.N = 8 := rfl; omega⟩ ⟨64 * (t.val % 4) + h.val, by omega⟩ w k) := by
  have hi : ∀ t : Fin grid0.N, win0_0.index t = ![t.val / 4, t.val % 4, 0, 0] := by decide
  show V0 m c (Proc.devRef .tc main_arg0) (((cfg0.win 0).blk t).view.emb (ix4 0 h w k)) = _
  show m _ _ = m _ _
  congr 1
  funext a
  apply Fin.ext
  refine (Pipeline.Window.rect_emb_val_off win0_0 t (ix4 0 h w k) a).trans ?_
  rw [hi t]
  fin_cases a
  · show t.val / 4 * 1 + 0 = t.val / 4
    omega
  · show t.val % 4 * 64 + h.val = 64 * (t.val % 4) + h.val
    omega
  · show 0 * 256 + w.val = w.val
    omega
  · show 0 * 128 + k.val = k.val
    omega

end Cert.KernelIdeal.Stats
-- ==== Proof.Ideal.Totals.lean ====
/-
  The totals of the whole array: one device's totals as sums over its rows, the ring's totals as sums over all rows, and
  the table of means and reciprocal deviations made of them.
-/
module

public import proofs.«01_k».proof.Proof.Ideal.Sums
public import Idealize.ShloMosaic.Lib.Layout

@[expose] public section

set_option maxRecDepth 16384

noncomputable section

namespace Cert.KernelIdeal.Stats

open Cert.KernelIdeal Cert.KernelIdeal.Gen
open Idealize.ShloMosaic

/-- A sum over `A` runs of `B` consecutive places is the sum over all the places. -/
theorem sum_runs {M : Type*} [AddCommMonoid M] (A B N : ℕ) (hN : A * B = N) (g : Fin N → M) :
    ∑ a : Fin A, ∑ b : Fin B, g ⟨B * a.val + b.val, by
      have h1 := a.isLt; have h2 := b.isLt
      calc B * a.val + b.val < B * a.val + B := by omega
        _ = B * (a.val + 1) := by rw [Nat.mul_add, Nat.mul_one]
        _ ≤ B * A := Nat.mul_le_mul_left _ h1
        _ = N := by rw [Nat.mul_comm]; exact hN⟩ = ∑ r : Fin N, g r := by
  subst hN
  rw [← Fintype.sum_prod_type', ← Equiv.sum_comp finProdFinEquiv g]
  refine Finset.sum_congr rfl fun p _ => congrArg g (Fin.ext ?_)
  show B * p.1.val + p.2.val = p.2.val + B * p.1.val
  omega

variable (m : (ℓ : Loc nD τ sig) → Buf (Elt Ideal) ℓ)

/-- Device `c`'s sum over its rows of image `b` at a channel, and the sum of its squares. -/
def devSum (c : Dev nD) (b : Fin 2) (k : Fin 128) : EReal :=
  ∑ r : Fin 256, ∑ w : Fin 256, opnd m c (ix4 b r w k)
def devSq (c : Dev nD) (b : Fin 2) (k : Fin 128) : EReal :=
  ∑ r : Fin 256, ∑ w : Fin 256, opnd m c (ix4 b r w k) * opnd m c (ix4 b r w k)

theorem devSum_tiles (c : Dev nD) (b : Fin 2) (k : Fin 128) :
    devSum m c b k = ∑ a : Fin 4, tileSum (xblk m c ⟨4 * b.val + a.val, by show _ < 8; omega⟩) k := by
  unfold devSum tileSum
  rw [← sum_runs 4 64 256 rfl]
  refine Finset.sum_congr rfl fun a _ => ?_
  rw [Finset.sum_comm]
  refine Finset.sum_congr rfl fun w _ => Finset.sum_congr rfl fun h _ => ?_
  rw [xblk_at]
  congr 2
  · apply Fin.ext; show b.val = (4 * b.val + a.val) / 4; omega
  · apply Fin.ext; show 64 * a.val + h.val = 64 * ((4 * b.val + a.val) % 4) + h.val; omega
theorem devSq_tiles (c : Dev nD) (b : Fin 2) (k : Fin 128) :
    devSq m c b k = ∑ a : Fin 4, tileSq (xblk m c ⟨4 * b.val + a.val, by show _ < 8; omega⟩) k := by
  unfold devSq tileSq
  rw [← sum_runs 4 64 256 rfl]
  refine Finset.sum_congr rfl fun a _ => ?_
  rw [Finset.sum_comm]
  refine Finset.sum_congr rfl fun w _ => Finset.sum_congr rfl fun h _ => ?_
  have e : (ix4 b ⟨64 * a.val + h.val, by omega⟩ w k : S2x256x256x128.Idx)
      = ix4 ⟨(4 * b.val + a.val) / 4, by omega⟩ ⟨64 * ((4 * b.val + a.val) % 4) + h.val, by omega⟩ w k := by
    congr 1
    · apply Fin.ext; show b.val = (4 * b.val + a.val) / 4; omega
    · apply Fin.ext; show 64 * a.val + h.val = 64 * ((4 * b.val + a.val) % 4) + h.val; omega
  rw [xblk_at, e]

/-- Eight steps from zero of which the first four add, and eight of which the last four add. -/
theorem steps_lo (f : ℕ → EReal) (T : Fin 8 → EReal) (z : f 0 = 0) (s : ∀ t : Fin 8, t.val < 4 → f (t.val + 1) = f t.val + T t)
    (n : ∀ t : Fin 8, ¬ t.val < 4 → f (t.val + 1) = f t.val) : f 8 = ∑ a : Fin 4, T ⟨a.val, by omega⟩ := by
  have e4 : f 4 = T 0 + T 1 + T 2 + T 3 := by
    rw [show f 4 = _ from s 3 (by decide), show f (3 : Fin 8).val = _ from s 2 (by decide), show f (2 : Fin 8).val = _ from s 1 (by decide),
      show f (1 : Fin 8).val = _ from s 0 (by decide), show f (0 : Fin 8).val = 0 from z, zero_add]
  have e8 : f 8 = f 4 := (n 7 (by decide)).trans ((n 6 (by decide)).trans ((n 5 (by decide)).trans (n 4 (by decide))))
  rw [e8, e4, Fin.sum_univ_four]
  rfl
theorem steps_hi (f : ℕ → EReal) (T : Fin 8 → EReal) (z : f 0 = 0) (s : ∀ t : Fin 8, ¬ t.val < 4 → f (t.val + 1) = f t.val + T t)
    (n : ∀ t : Fin 8, t.val < 4 → f (t.val + 1) = f t.val) : f 8 = ∑ a : Fin 4, T ⟨4 + a.val, by omega⟩ := by
  have e4 : f 4 = 0 := (n 3 (by decide)).trans ((n 2 (by decide)).trans ((n 1 (by decide)).trans ((n 0 (by decide)).trans z)))
  have e8 : f 8 = T 4 + T 5 + T 6 + T 7 := by
    rw [show f 8 = _ from s 7 (by decide), show f (7 : Fin 8).val = _ from s 6 (by decide), show f (6 : Fin 8).val = _ from s 5 (by decide),
      show f (5 : Fin 8).val = _ from s 4 (by decide), show f (4 : Fin 8).val = 0 from e4, zero_add]
  rw [e8, Fin.sum_univ_four]
  rfl

/-- The totals after eight points, row by row. -/
theorem part_row0 (c : Dev nD) (k : Fin 128) : part m c (ix2 0 k) = devSum m c 0 k := by
  refine (steps_lo (fun n => totn m c n (ix2 0 k)) (fun t => tileSum (xblk m c t) k) (pay7_at _) (fun t h => ?_) (fun t h => ?_)).trans ?_
  · show totn m c (t.val + 1) (ix2 0 k) = _
    rw [totn_lo m c t h, acc0_0]
  · show totn m c (t.val + 1) (ix2 0 k) = _
    rw [totn_hi m c t h, acc1_0]
  · rw [devSum_tiles]
    exact Finset.sum_congr rfl fun a _ => congrArg (fun t => tileSum (xblk m c t) k) (Fin.ext (by show a.val = 4 * 0 + a.val; omega))
theorem part_row2 (c : Dev nD) (k : Fin 128) : part m c (ix2 2 k) = devSq m c 0 k := by
  refine (steps_lo (fun n => totn m c n (ix2 2 k)) (fun t => tileSq (xblk m c t) k) (pay7_at _) (fun t h => ?_) (fun t h => ?_)).trans ?_
  · show totn m c (t.val + 1) (ix2 2 k) = _
    rw [totn_lo m c t h, acc0_2]
  · show totn m c (t.val + 1) (ix2 2 k) = _
    rw [totn_hi m c t h, acc1_2]
  · rw [devSq_tiles]
    exact Finset.sum_congr rfl fun a _ => congrArg (fun t => tileSq (xblk m c t) k) (Fin.ext (by show a.val = 4 * 0 + a.val; omega))
theorem part_row1 (c : Dev nD) (k : Fin 128) : part m c (ix2 1 k) = devSum m c 1 k := by
  refine (steps_hi (fun n => totn m c n (ix2 1 k)) (fun t => tileSum (xblk m c t) k) (pay7_at _) (fun t h => ?_) (fun t h => ?_)).trans ?_
  · show totn m c (t.val + 1) (ix2 1 k) = _
    rw [totn_hi m c t h, acc1_1]
  · show totn m c (t.val + 1) (ix2 1 k) = _
    rw [totn_lo m c t h, acc0_1]
  · rw [devSum_tiles]
    exact Finset.sum_congr rfl fun a _ => congrArg (fun t => tileSum (xblk m c t) k) (Fin.ext (by show 4 + a.val = 4 * 1 + a.val; omega))
theorem part_row3 (c : Dev nD) (k : Fin 128) : part m c (ix2 3 k) = devSq m c 1 k := by
  refine (steps_hi (fun n => totn m c n (ix2 3 k)) (fun t => tileSq (xblk m c t) k) (pay7_at _) (fun t h => ?_) (fun t h => ?_)).trans ?_
  · show totn m c (t.val + 1) (ix2 3 k) = _
    rw [totn_hi m c t h, acc1_3]
  · show totn m c (t.val + 1) (ix2 3 k) = _
    rw [totn_lo m c t h, acc0_3]
  · rw [devSq_tiles]
    exact Finset.sum_congr rfl fun a _ => congrArg (fun t => tileSq (xblk m c t) k) (Fin.ext (by show 4 + a.val = 4 * 1 + a.val; omega))

theorem part_sum (c : Dev nD) (b : Fin 2) (k : Fin 128) : part m c (ix2 ⟨b.val, by omega⟩ k) = devSum m c b k := by
  fin_cases b
  · exact part_row0 m c k
  · exact part_row1 m c k
theorem part_sq (c : Dev nD) (b : Fin 2) (k : Fin 128) : part m c (ix2 ⟨2 + b.val, by omega⟩ k) = devSq m c b k := by
  fin_cases b
  · exact part_row2 m c k
  · exact part_row3 m c k

/-! ## All the devices' totals -/

/-- After three hops every device holds the sum of the four devices' totals. -/
theorem ring_sum (c : Dev nD) (j : S8x128.Idx) : hop3 m c j = (∑ d : Fin 4, part m (d : Dev nD) j : EReal) := by
  have h : hop3 m c j = (part m c j + part m (prv c) j + part m (prv (prv c)) j + part m (prv (prv (prv c))) j : EReal) := by
    rw [hop3, hop_at3, hop2, hop_at2, hop1, hop_at1]
    rfl
  rw [h, Fin.sum_univ_four]
  generalize part m = P
  have hc : ∀ c : Fin 4, ((P (c : Dev nD) j + P (prv c) j + P (prv (prv c)) j + P (prv (prv (prv c))) j : EReal))
      = P (0 : Fin 4) j + P (1 : Fin 4) j + P (2 : Fin 4) j + P (3 : Fin 4) j := by
    intro c
    have a0 : prv (0 : Fin 4) = (3 : Fin 4) := rfl
    have a1 : prv (1 : Fin 4) = (0 : Fin 4) := rfl
    have a2 : prv (2 : Fin 4) = (1 : Fin 4) := rfl
    have a3 : prv (3 : Fin 4) = (2 : Fin 4) := rfl
    generalize h0 : P (0 : Fin 4) j = p0
    generalize h1 : P (1 : Fin 4) j = p1
    generalize h2 : P (2 : Fin 4) j = p2
    generalize h3 : P (3 : Fin 4) j = p3
    rcases (show c = 0 ∨ c = 1 ∨ c = 2 ∨ c = 3 by revert c; decide) with rfl | rfl | rfl | rfl
    · rw [a0, a3, a2, h0, h1, h2, h3]; ac_rfl
    · rw [a1, a0, a3, h0, h1, h2, h3]; ac_rfl
    · rw [a2, a1, a0, h0, h1, h2, h3]; ac_rfl
    · rw [a3, a2, a1, h0, h1, h2, h3]; ac_rfl
  exact hc c

/-! ## In terms of the whole array -/

/-- The whole operand's shape. -/
abbrev SX : Shape := ⟨4, ![2, 1024, 256, 128]⟩

/-- The sum over all rows of image `b` at a channel, and the sum of the squares. -/
def allSum (x : SX.Idx → EReal) (b : Fin 2) (k : Fin 128) : EReal := ∑ r : Fin 1024, ∑ w : Fin 256, x (ix4 b r w k)
def allSq (x : SX.Idx → EReal) (b : Fin 2) (k : Fin 128) : EReal :=
  ∑ r : Fin 1024, ∑ w : Fin 256, x (ix4 b r w k) * x (ix4 b r w k)

/-- Every device's operand is its 256 rows of the whole. -/
def Agrees (x : SX.Idx → EReal) : Prop :=
  ∀ (c : Dev nD) (b : Fin 2) (r : Fin 256) (w : Fin 256) (k : Fin 128),
    opnd m c (ix4 b r w k) = x (ix4 b ⟨256 * c.val + r.val, by have : c.val < 4 := c.isLt; omega⟩ w k)

variable {m} {x : SX.Idx → EReal} (hx : Agrees m x)
include hx

theorem ring_allSum (c : Dev nD) (b : Fin 2) (k : Fin 128) : hop3 m c (ix2 ⟨b.val, by omega⟩ k) = allSum x b k := by
  rw [ring_sum]
  unfold allSum
  rw [← sum_runs 4 256 1024 rfl]
  refine Finset.sum_congr rfl fun d _ => (part_sum m d b k).trans ?_
  unfold devSum
  exact Finset.sum_congr rfl fun r _ => Finset.sum_congr rfl fun w _ => hx d b r w k
theorem ring_allSq (c : Dev nD) (b : Fin 2) (k : Fin 128) : hop3 m c (ix2 ⟨2 + b.val, by omega⟩ k) = allSq x b k := by
  rw [ring_sum]
  unfold allSq
  rw [← sum_runs 4 256 1024 rfl]
  refine Finset.sum_congr rfl fun d _ => (part_sq m d b k).trans ?_
  unfold devSq
  exact Finset.sum_congr rfl fun r _ => Finset.sum_congr rfl fun w _ => by rw [hx d b r w k]

/-- The kernel's mean and reciprocal deviation of image `b` at a channel. -/
def mu (x : SX.Idx → EReal) (b : Fin 2) (k : Fin 128) : EReal := allSum x b k * cN
def rho (x : SX.Idx → EReal) (b : Fin 2) (k : Fin 128) : EReal :=
  Ideal.rsqrt (allSq x b k * cN - mu x b k * mu x b k + cE)

/-- The first call's result: rows 0 and 1 the means, rows 2 and 3 the reciprocal deviations. -/
theorem stat_mu (c : Dev nD) (b : Fin 2) (k : Fin 128) : stat m c (ix2 ⟨b.val, by omega⟩ k) = mu x b k := by
  refine (congrFun (View.read_whole (Val := Elt Ideal) cc0_scratch0 _) (ix2 ⟨b.val, by omega⟩ k)).symm.trans ?_
  have h : b.val < 2 := b.isLt
  refine (View.read_writes_cons_miss_of_axis totM.view _ _ _ _ 0 4 4 rfl rfl rfl (.inl (show b.val < 4 by omega))).trans ?_
  refine (View.read_writes_cons_miss_of_axis totM.view _ _ _ _ 0 2 2 rfl rfl rfl (.inl h)).trans ?_
  refine (View.read_writes_cons_hit_of_coords (Val := Elt Ideal) totM.view _ q0 (k0_pay5 (hop3 m c)) [] (ix2 b k : S2x128.Idx) _ fun a => ?_).trans ?_
  · fin_cases a
    · show b.val = 0 + 1 * b.val
      omega
    · show k.val = 0 + 1 * k.val
      omega
  · rw [pay5_at, ring_allSum hx]
    rfl
theorem stat_rho (c : Dev nD) (b : Fin 2) (k : Fin 128) : stat m c (ix2 ⟨2 + b.val, by omega⟩ k) = rho x b k := by
  refine (congrFun (View.read_whole (Val := Elt Ideal) cc0_scratch0 _) (ix2 ⟨2 + b.val, by omega⟩ k)).symm.trans ?_
  have h : b.val < 2 := b.isLt
  refine (View.read_writes_cons_miss_of_axis totM.view _ _ _ _ 0 4 4 rfl rfl rfl (.inl (show 2 + b.val < 4 by omega))).trans ?_
  refine (View.read_writes_cons_hit_of_coords (Val := Elt Ideal) totM.view _ q2 (k0_pay6 (hop3 m c)) _ (ix2 b k : S2x128.Idx) _ fun a => ?_).trans ?_
  · fin_cases a
    · show 2 + b.val = 2 + 1 * b.val
      omega
    · show k.val = 0 + 1 * k.val
      omega
  · rw [pay6_at, ring_allSum hx, ring_allSq hx]
    rfl

end Cert.KernelIdeal.Stats
-- ==== Proof.Ideal.Norm.lean ====
/-
  The normalisation over the reals: for a finite operand the kernel's two accumulated sums give the reference's variance,
  and multiplying by the reciprocal root is dividing by the root.
-/
module

public import proofs.«01_k».proof.Proof.Ideal.Totals

@[expose] public section

noncomputable section

namespace Cert.KernelIdeal.Stats

open Idealize.ShloMosaic

/-- The literals as reals. -/
theorem cN_eq : cN = ((1 / 262144 : ℝ) : EReal) := by
  simp [cN, Ideal.ofBits, Ideal.ieee, -EReal.coe_mul]; norm_num
theorem cE_eq : cE = ((10995116 / 1099511627776 : ℝ) : EReal) := by
  simp [cE, Ideal.ofBits, Ideal.ieee, -EReal.coe_mul]; norm_num
/-- The number of summands, as the reference writes it. -/
abbrev cC : EReal := Ideal.ofBits .f32 0x48800000#32
theorem cC_eq : cC = ((262144 : ℝ) : EReal) := by
  simp [cC, Ideal.ofBits, Ideal.ieee, -EReal.coe_mul]; norm_num

/-- A sum of reals, taken among the extended reals. -/
theorem coe_sum' {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The mean of the squared distances from the mean is the mean of the squares less the mean's square. -/
theorem variance {ι : Type*} [Fintype ι] (f : ι → ℝ) (N : ℝ) (hN : N ≠ 0) (hc : (Fintype.card ι : ℝ) = N) :
    (∑ i, (f i - (∑ j, f j) * (1 / N)) * (f i - (∑ j, f j) * (1 / N))) * (1 / N)
      = (∑ i, f i * f i) * (1 / N) - (∑ j, f j) * (1 / N) * ((∑ j, f j) * (1 / N)) := by
  generalize hμ : (∑ j, f j) * (1 / N) = μ
  have hS : ∑ j, f j = N * μ := by rw [← hμ]; field_simp
  have h : ∑ i, (f i - μ) * (f i - μ) = ∑ i, f i * f i - N * μ * μ := by
    calc ∑ i, (f i - μ) * (f i - μ) = ∑ i, (f i * f i - 2 * μ * f i + μ * μ) := Finset.sum_congr rfl fun i _ => by ring
      _ = ∑ i, f i * f i - 2 * μ * ∑ i, f i + N * (μ * μ) := by
        rw [Finset.sum_add_distrib, Finset.sum_sub_distrib, ← Finset.mul_sum, Finset.sum_const, nsmul_eq_mul, Finset.card_univ, hc]
      _ = _ := by rw [hS]; ring
  rw [h]
  field_simp

/-- The reference's mean and variance of image `b` at a channel. -/
def rmean (x : SX.Idx → EReal) (b : Fin 2) (k : Fin 128) : EReal := Ideal.div (allSum x b k) cC
def rvar (x : SX.Idx → EReal) (b : Fin 2) (k : Fin 128) : EReal :=
  Ideal.div (∑ r : Fin 1024, ∑ w : Fin 256, (x (ix4 b r w k) - rmean x b k) * (x (ix4 b r w k) - rmean x b k)) cC

/-- For a finite operand the two normalisations are equal. -/
theorem norm_eq (x : SX.Idx → EReal) (f : SX.Idx → ℝ) (hf : ∀ i, x i = (f i : EReal)) (b : Fin 2) (k : Fin 128) (v : ℝ) :
    ((v : EReal) - mu x b k) * rho x b k = Ideal.div ((v : EReal) - rmean x b k) (Ideal.sqrt (rvar x b k + cE)) := by
  let g : Fin 1024 × Fin 256 → ℝ := fun p => f (ix4 b p.1 p.2 k)
  have hS : allSum x b k = ((∑ p, g p : ℝ) : EReal) := by
    rw [Fintype.sum_prod_type, coe_sum']
    exact Finset.sum_congr rfl fun r _ => by
      rw [coe_sum']; exact Finset.sum_congr rfl fun w _ => hf _
  have hQ : allSq x b k = ((∑ p, g p * g p : ℝ) : EReal) := by
    rw [Fintype.sum_prod_type, coe_sum']
    exact Finset.sum_congr rfl fun r _ => by
      rw [coe_sum']; exact Finset.sum_congr rfl fun w _ => by rw [hf, EReal.coe_mul]
  have hmu : mu x b k = (((∑ p, g p) * (1 / 262144) : ℝ) : EReal) := by
    rw [mu, hS, cN_eq, EReal.coe_mul]
  have hrm : rmean x b k = (((∑ p, g p) * (1 / 262144) : ℝ) : EReal) := by
    rw [rmean, hS, cC_eq, Ideal.div_coe (by norm_num), EReal.coe_mul]
  generalize hμ : (∑ p, g p) * (1 / 262144) = μ at hmu hrm
  have hV : rvar x b k = (((∑ p, (g p - μ) * (g p - μ)) * (1 / 262144) : ℝ) : EReal) := by
    rw [rvar, cC_eq, Ideal.div_coe (by norm_num), hrm, Fintype.sum_prod_type, EReal.coe_mul, coe_sum']
    refine congrArg (· * ((1 / 262144 : ℝ) : EReal)) (Finset.sum_congr rfl fun r _ => ?_)
    rw [coe_sum']; exact Finset.sum_congr rfl fun w _ => by rw [hf, EReal.coe_mul, EReal.coe_sub]
  have hvar := variance g 262144 (by norm_num) (by simp only [Fintype.card_prod, Fintype.card_fin]; norm_num)
  rw [hμ] at hvar
  have h0 : 0 ≤ (∑ p, (g p - μ) * (g p - μ)) * (1 / 262144) :=
    mul_nonneg (Finset.sum_nonneg fun p _ => mul_self_nonneg _) (by norm_num)
  generalize hs : (∑ p, (g p - μ) * (g p - μ)) * (1 / 262144) = s at hV hvar h0
  have hpos : 0 < s + 10995116 / 1099511627776 := by positivity
  have hr : rho x b k = (((Real.sqrt (s + 10995116 / 1099511627776))⁻¹ : ℝ) : EReal) := by
    rw [rho, hQ, hmu, cN_eq, cE_eq, ← EReal.coe_mul, ← EReal.coe_mul, ← EReal.coe_sub, ← hvar, ← EReal.coe_add, Ideal.rsqrt_coe,
      if_neg (not_lt.mpr hpos.le), if_neg hpos.ne']
  rw [hr, hV, hmu, hrm, cE_eq, ← EReal.coe_add, Ideal.sqrt_coe, if_neg (not_lt.mpr hpos.le),
    Ideal.div_coe (Real.sqrt_pos.mpr hpos).ne', one_div]

/-- So are their swishes. -/
theorem swish_eq (x : SX.Idx → EReal) (f : SX.Idx → ℝ) (hf : ∀ i, x i = (f i : EReal)) (b : Fin 2) (k : Fin 128) (i : SX.Idx) :
    swish (x i) (mu x b k) (rho x b k)
      = Ideal.div (Ideal.div (x i - rmean x b k) (Ideal.sqrt (rvar x b k + cE)))
          (1 + Ideal.exp (-(Ideal.div (x i - rmean x b k) (Ideal.sqrt (rvar x b k + cE))))) := by
  rw [swish, zero_sub, hf i, norm_eq x f hf b k (f i)]

end Cert.KernelIdeal.Stats
-- ==== Proof.Ideal.RefVal.lean ====
/-
  The reference's result at an index, over the extended reals: the product of the normalised and swished operand with the
  weights. And what the precondition says: every element of the operand is a real.
-/
module

public import proofs.«01_k».proof.Proof.Ideal.Norm
public import proofs.«01_k».proof.Proof.Gen.ReferenceIdeal.Run
public import proofs.«01_k».proof.Proof.Gen.Pre_finite_KernelIdeal
public import Idealize.ShloMosaic.Lib.Pointwise
public import Idealize.ShloMosaic.Lib.IdealHost
public import Idealize.ShloMosaic.Lib.ReduceAll

@[expose] public section

set_option maxRecDepth 16384

noncomputable section

namespace Cert.KernelIdeal.Stats

open Idealize.ShloMosaic

/-- A sum over rows and columns, from the host's reduction. -/
theorem host_sum (x : SX.Idx → EReal) (z : EReal) (h : (SX).ReducesTo [1, 2] (⟨2, ![2, 128]⟩ : Shape)) (b : Fin 2) (k : Fin 128) :
    Ideal.hostReduceAdd h x z (ix2 b k) = z + ∑ r : Fin 1024, ∑ w : Fin 256, x (ix4 b r w k) := by
  unfold Ideal.hostReduceAdd
  congr 1
  rw [← Fintype.sum_prod_type' (f := fun (r : Fin 1024) (w : Fin 256) => x (ix4 b r w k))]
  refine Finset.sum_filter_eq_sum_of_fiber _ (fun p : Fin 1024 × Fin 256 => (ix4 b p.1 p.2 k : SX.Idx)) (fun p q e => ?_) (fun i => ?_) x
  · exact Prod.ext (congrFun e 1) (congrFun e 2)
  · constructor
    · intro e
      refine ⟨(i 1, i 2), ?_⟩
      have e0 : i 0 = b := congrFun e 0
      have e1 : i 3 = k := congrFun e 1
      rw [← e0, ← e1]
      exact (eq_ix4 i).symm
    · rintro ⟨p, rfl⟩
      funext a
      fin_cases a <;> rfl

section
open Cert.ReferenceIdeal Cert.ReferenceIdeal.Gen

/-- The reference's array of means, of an operand. -/
def refMean (X : FVec Ideal S2x1024x256x128 .f32) : FVec Ideal S2x1x1x128 .f32 :=
  Host.divf (broadcastInDim S2x1x1x128 ![0, 3] bcast_S2x128_S2x1x1x128_0_3
    (Host.reduceAdd X (constant S_ .f32 0x00000000#32) reducesTo_S2x1024x256x128_S2x128_d1_2 h_S_))
    (broadcastInDim S2x1x1x128 ![] bcast_S_S2x1x1x128 (constant S_ .f32 0x48800000#32))

/-- The operand less its means. -/
def refDev (X : FVec Ideal S2x1024x256x128 .f32) : FVec Ideal S2x1024x256x128 .f32 :=
  subf X (broadcastInDim S2x1024x256x128 ![0, 1, 2, 3] bcast_S2x1x1x128_S2x1024x256x128_0_1_2_3 (refMean X))

/-- The number the sum of the squared deviations is divided by. -/
def refCount : FVec Ideal S_ .f32 := subf (constant S_ .f32 0x48800000#32) (sitofp .f32 (constantI S_ 32 0#32))

/-- The reference's array of variances. -/
def refVar (X : FVec Ideal S2x1024x256x128 .f32) : FVec Ideal S2x1x1x128 .f32 :=
  select (broadcastInDim S2x1x1x128 ![] bcast_S_S2x1x1x128 (cmpf .ogt refCount (constant S_ .f32 0x00000000#32)))
    (Host.divf (broadcastInDim S2x1x1x128 ![0, 3] bcast_S2x128_S2x1x1x128_0_3
      (Host.reduceAdd (mulf (refDev X) (refDev X)) (constant S_ .f32 0x00000000#32) reducesTo_S2x1024x256x128_S2x128_d1_2 h_S_))
      (broadcastInDim S2x1x1x128 ![] bcast_S_S2x1x1x128 refCount))
    (broadcastInDim S2x1x1x128 ![] bcast_S_S2x1x1x128 (id (constant S_ .f32 0x7FC00000#32)))

/-- The normalised operand. -/
def refNorm (X : FVec Ideal S2x1024x256x128 .f32) : FVec Ideal S2x1024x256x128 .f32 :=
  Host.divf (refDev X) (broadcastInDim S2x1024x256x128 ![0, 1, 2, 3] bcast_S2x1x1x128_S2x1024x256x128_0_1_2_3
    (Host.sqrt (addf (refVar X) (broadcastInDim S2x1x1x128 ![] bcast_S_S2x1x1x128 (constant S_ .f32 0x3727C5AC#32)))))

/-- Its swish. -/
def refSwish (X : FVec Ideal S2x1024x256x128 .f32) : FVec Ideal S2x1024x256x128 .f32 :=
  Host.divf (refNorm X) (addf (broadcastInDim S2x1024x256x128 ![] bcast_S_S2x1024x256x128 (constant S_ .f32 0x3F800000#32))
    (Host.exp (Host.negf (refNorm X))))

/-- The product with the weights. -/
def refOut (X : FVec Ideal S2x1024x256x128 .f32) (W : FVec Ideal S128x256 .f32) : FVec Ideal S2x1024x256x256 .bf16 :=
  truncf .bf16 (shapeCast _ (Host.dotGeneral dot_S524288x128_S128x256_S524288x256_1_0_0_1_n_n none
    (shapeCast _ (refSwish X) shapeCasts_S2x1024x256x128_S524288x128) W) shapeCasts_S524288x256_S2x1024x256x256) bitsLt_bf16_f32

/-- The reference's result is that product. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v20 m c
      = refOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := rfl

theorem refMean_at (X : FVec Ideal S2x1024x256x128 .f32) (b : Fin 2) (k : Fin 128) : refMean X (ix4 b 0 0 k) = rmean X b k := by
  have h : Host.reduceAdd X (constant S_ .f32 0x00000000#32) reducesTo_S2x1024x256x128_S2x128_d1_2 h_S_ (ix2 b k)
      = (allSum X b k : EReal) := by
    refine (host_sum _ _ reducesTo_S2x1024x256x128_S2x128_d1_2 b k).trans ?_
    have h0 : constant (F := Ideal) S_ .f32 0x00000000#32 (Shape.Idx.first h_S_) = (0 : EReal) := by pointwise
    rw [h0, zero_add]
    rfl
  rw [rmean, ← h]
  generalize hY : Host.reduceAdd X (constant S_ .f32 0x00000000#32) reducesTo_S2x1024x256x128_S2x128_d1_2 h_S_ = Y
  unfold refMean
  rw [hY]
  pointwise

theorem refDev_at (X : FVec Ideal S2x1024x256x128 .f32) (b : Fin 2) (r : Fin 1024) (w : Fin 256) (k : Fin 128) :
    refDev X (ix4 b r w k) = (X (ix4 b r w k) - rmean X b k : EReal) := by
  rw [← refMean_at]
  unfold refDev
  generalize refMean X = M
  pointwise

theorem refCount_at (j : S_.Idx) : refCount j = cC := by
  show Ideal.ofBits .f32 0x48800000#32 - ((((0#32 : BitVec 32).toInt : ℝ)) : EReal) = cC
  simp

theorem refVar_at (X : FVec Ideal S2x1024x256x128 .f32) (b : Fin 2) (k : Fin 128) : refVar X (ix4 b 0 0 k) = rvar X b k := by
  have h : Host.reduceAdd (mulf (refDev X) (refDev X)) (constant S_ .f32 0x00000000#32) reducesTo_S2x1024x256x128_S2x128_d1_2 h_S_ (ix2 b k)
      = (∑ r : Fin 1024, ∑ w : Fin 256, (X (ix4 b r w k) - rmean X b k) * (X (ix4 b r w k) - rmean X b k) : EReal) := by
    refine (host_sum _ _ reducesTo_S2x1024x256x128_S2x128_d1_2 b k).trans ?_
    have h0 : constant (F := Ideal) S_ .f32 0x00000000#32 (Shape.Idx.first h_S_) = (0 : EReal) := by pointwise
    rw [h0, zero_add]
    refine Finset.sum_congr rfl fun r _ => Finset.sum_congr rfl fun w _ => ?_
    show (refDev X (ix4 b r w k) * refDev X (ix4 b r w k) : EReal) = _
    rw [refDev_at]
  have hc : cmpf .ogt refCount (constant (F := Ideal) S_ .f32 0x00000000#32) = fun _ => 1#1 := by
    funext j
    show Ideal.cmp .ogt (refCount j) (Ideal.ofBits .f32 0x00000000#32) = 1#1
    rw [refCount_at, cC_eq]
    simp [Ideal.cmp, Ideal.ofBits, Ideal.ieee]
  have hn : refCount = fun _ => cC := funext refCount_at
  rw [rvar, ← h]
  generalize hY : Host.reduceAdd (mulf (refDev X) (refDev X)) (constant S_ .f32 0x00000000#32) reducesTo_S2x1024x256x128_S2x128_d1_2 h_S_ = Y
  unfold refVar
  rw [hY, hc, hn]
  pointwise

theorem refNorm_at (X : FVec Ideal S2x1024x256x128 .f32) (b : Fin 2) (r : Fin 1024) (w : Fin 256) (k : Fin 128) :
    refNorm X (ix4 b r w k) = Ideal.div (X (ix4 b r w k) - rmean X b k : EReal) (Ideal.sqrt (rvar X b k + cE)) := by
  rw [← refDev_at, ← refVar_at]
  unfold refNorm
  generalize refDev X = D
  generalize refVar X = V
  pointwise

/-- The reference's result at an index. -/
theorem refOut_at (X : FVec Ideal S2x1024x256x128 .f32) (W : FVec Ideal S128x256 .f32) (b : Fin 2) (r : Fin 1024) (w : Fin 256) (o : Fin 256) :
    refOut X W (ix4 b r w o) = (∑ k : Fin 128,
      Ideal.div (Ideal.div (X (ix4 b r w k) - rmean X b k) (Ideal.sqrt (rvar X b k + cE)))
        (1 + Ideal.exp (-(Ideal.div (X (ix4 b r w k) - rmean X b k) (Ideal.sqrt (rvar X b k + cE))))) * W (ix2 k o) : EReal) := by
  simp only [← refNorm_at]
  unfold refOut refSwish
  generalize refNorm X = N
  pointwise

end

/-- The precondition, on one device: every element of its operand is a real. -/
theorem real_of_pre (x : FVec Ideal Cert.Pre_finite_KernelIdeal.S2x256x256x128 .f32) (w : FVec Ideal Cert.Pre_finite_KernelIdeal.S128x256 .f32)
    (h : Cert.Pre_finite_KernelIdeal.fn (F := Ideal) x w = fun _ => 1#1) (i : Cert.Pre_finite_KernelIdeal.S2x256x256x128.Idx) :
    ∃ r : ℝ, x i = (r : EReal) := by
  haveI : Subsingleton Cert.Pre_finite_KernelIdeal.S_.Idx := ⟨fun a b => funext fun k => k.elim0⟩
  have hi := Host.reduce_andi_all _ _ _ _ _ (congrFun h (Shape.Idx.first Cert.Pre_finite_KernelIdeal.Facts.h_S_)) i
  have hlt : Ideal.cmp .olt (max (x i) (-(x i)) : EReal) (Ideal.ofBits .f32 0x7F800000#32) = 1#1 := hi
  have hb : Ideal.ofBits .f32 0x7F800000#32 = ⊤ := by simp [Ideal.ofBits, Ideal.ieee]
  rw [hb] at hlt
  have hx : max (x i) (-(x i)) < (⊤ : EReal) := by
    by_contra hn
    simp [Ideal.cmp, hn] at hlt
  have h1 : (x i : EReal) ≠ ⊤ := fun e => by rw [e] at hx; simp at hx
  have h2 : (x i : EReal) ≠ ⊥ := fun e => by rw [e] at hx; simp at hx
  exact ⟨(x i : EReal).toReal, (EReal.coe_toReal h1 h2).symm⟩

end Cert.KernelIdeal.Stats
-- ==== Proof.Ideal.Value.lean ====
/-
  What the two calls leave, over the extended reals: the first call's array is the table of statistics, and the second call's
  array on each device is that device's block of the reference's result.
-/
module

public import proofs.«01_k».proof.Proof.Ideal.RefVal
public import proofs.«01_k».proof.Proof.Ideal.Segs

@[expose] public section

set_option maxRecDepth 16384

noncomputable section

namespace Cert.KernelIdeal.Stats

open Cert.KernelIdeal Cert.KernelIdeal.Gen
open Idealize.ShloMosaic
open Idealize.ShloMosaic.TcCoe

variable (m : (ℓ : Loc nD τ sig) → Buf (Elt Ideal) ℓ)

/-! ## The first call's array -/

/-- Its one block is all of it. -/
theorem emb0_1 (t : Fin cfg0.N) (r : Fin 8) (k : Fin 128) : ((cfg0.win 1).blk t).view.emb (ix2 r k : S8x128.Idx) = (ix2 r k : S8x128.Idx) := by
  have hi : ∀ t : Fin grid0.N, win0_1.index t = ![0, 0] := by decide
  funext a
  apply Fin.ext
  refine (Pipeline.Window.rect_emb_val_off win0_1 t (ix2 r k) a).trans ?_
  rw [hi t]
  fin_cases a
  · show 0 * 8 + r.val = r.val
    omega
  · show 0 * 128 + k.val = k.val
    omega

/-- The first call leaves the statistics. -/
theorem statArr_eq (c : Dev nD) : statArr m c = stat m c := by
  refine (dat0 m c).arrAt_eq_of_cover 1 (stat m c) (fun t _ => ?_) (fun i => ?_)
  · funext y
    obtain ⟨r, k, rfl⟩ : ∃ (r : Fin 8) (k : Fin 128), y = (ix2 r k : S8x128.Idx) := ⟨y 0, y 1, eq_ix2 y⟩
    exact (congrArg (stat m c) (emb0_1 t r k)).symm
  · refine ⟨⟨7, by decide⟩, (flush0_1 _).mpr rfl, ?_⟩
    obtain ⟨r, k, rfl⟩ : ∃ (r : Fin 8) (k : Fin 128), i = (ix2 r k : S8x128.Idx) := ⟨i 0, i 1, eq_ix2 i⟩
    have h := View.emb_mem_set ((cfg0.win 1).blk ⟨7, by decide⟩).view (ix2 r k : S8x128.Idx)
    rw [emb0_1] at h
    exact h

/-! ## The second call's blocks -/

theorem idx1_0 : ∀ t : Fin grid1.N, win1_0.index t = ![t.val / 8, t.val % 8, 0, 0] := by decide
theorem idx1_1 : ∀ t : Fin grid1.N, win1_1.index t = ![0, 0] := by decide
theorem idx1_2 : ∀ t : Fin grid1.N, win1_2.index t = ![0, 0] := by decide
theorem idx1_3 : ∀ t : Fin grid1.N, win1_3.index t = ![t.val / 8, t.val % 8, 0, 0] := by decide
theorem lt1 (t : Fin cfg1.N) : t.val < 16 := t.isLt

/-- Point `t`'s block of the operand: 32 rows of one image. -/
theorem ablk_at (c : Dev nD) (t : Fin cfg1.N) (h : Fin 32) (w : Fin 256) (k : Fin 128) :
    ablk m c t (ix4 0 h w k)
      = opnd m c (ix4 ⟨t.val / 8, by have := lt1 t; omega⟩ ⟨32 * (t.val % 8) + h.val, by omega⟩ w k) := by
  show W1 m c (Proc.devRef .tc main_arg0) (((cfg1.win 0).blk t).view.emb (ix4 0 h w k)) = _
  rw [W1_ne m c (Proc.devRef .tc main_arg0) (by decide)]
  show m _ _ = m _ _
  congr 1
  funext a
  apply Fin.ext
  refine (Pipeline.Window.rect_emb_val_off win1_0 t (ix4 0 h w k) a).trans ?_
  rw [idx1_0 t]
  fin_cases a
  · show t.val / 8 * 1 + 0 = t.val / 8
    omega
  · show t.val % 8 * 32 + h.val = 32 * (t.val % 8) + h.val
    omega
  · show 0 * 256 + w.val = w.val
    omega
  · show 0 * 128 + k.val = k.val
    omega

/-- Every point reads the whole table of statistics, -/
theorem sblk_at (c : Dev nD) (t : Fin cfg1.N) (r : Fin 8) (k : Fin 128) : sblk m c t (ix2 r k) = stat m c (ix2 r k) := by
  show W1 m c (Proc.devRef .tc main_v1) (((cfg1.win 1).blk t).view.emb (ix2 r k)) = _
  rw [W1_v1, statArr_eq]
  refine congrArg (stat m c) ?_
  funext a
  apply Fin.ext
  refine (Pipeline.Window.rect_emb_val_off win1_1 t (ix2 r k) a).trans ?_
  rw [idx1_1 t]
  fin_cases a
  · show 0 * 8 + r.val = r.val
    omega
  · show 0 * 128 + k.val = k.val
    omega

/-- and all the weights. -/
theorem pblk_at (c : Dev nD) (t : Fin cfg1.N) (k : Fin 128) (o : Fin 256) :
    pblk m c t (ix2 k o) = m ((c : Thread nD τ).loc main_arg1) (ix2 k o) := by
  show W1 m c (Proc.devRef .tc main_arg1) (((cfg1.win 2).blk t).view.emb (ix2 k o)) = _
  rw [W1_ne m c (Proc.devRef .tc main_arg1) (by decide)]
  show m _ _ = m _ _
  congr 1
  funext a
  apply Fin.ext
  refine (Pipeline.Window.rect_emb_val_off win1_2 t (ix2 k o) a).trans ?_
  rw [idx1_2 t]
  fin_cases a
  · show 0 * 128 + k.val = k.val
    omega
  · show 0 * 256 + o.val = o.val
    omega

/-- The place of point `t`'s block in the result. -/
theorem emb1_3 (t : Fin cfg1.N) (h : Fin 32) (w : Fin 256) (o : Fin 256) :
    ((cfg1.win 3).blk t).view.emb (ix4 0 h w o : S1x32x256x256.Idx)
      = (ix4 ⟨t.val / 8, by have := lt1 t; omega⟩ ⟨32 * (t.val % 8) + h.val, by omega⟩ w o : S2x256x256x256.Idx) := by
  funext a
  apply Fin.ext
  refine (Pipeline.Window.rect_emb_val_off win1_3 t (ix4 0 h w o) a).trans ?_
  rw [idx1_3 t]
  fin_cases a
  · show t.val / 8 * 1 + 0 = t.val / 8
    omega
  · show t.val % 8 * 32 + h.val = 32 * (t.val % 8) + h.val
    omega
  · show 0 * 256 + w.val = w.val
    omega
  · show 0 * 256 + o.val = o.val
    omega

/-- A row of the statistics at a channel. -/
theorem rowOf_at (r : Fin 8) (inb : ∀ a, (![r.val, 0] : Fin 2 → ℕ) a + S1x128.size a ≤ S8x128.size a) (S : Vec Ideal S8x128 .f32) (k : Fin 128) :
    rowOf (Rect.unit (s := S8x128) ![r.val, 0] S1x128.size inb) S (ix2 0 k) = S (ix2 r k) := by
  show S _ = _
  congr 1
  funext a
  apply Fin.ext
  fin_cases a
  · show r.val + 1 * 0 = r.val
    omega
  · show 0 + 1 * k.val = k.val
    omega

/-- The image of a point, as the body tests it. -/
theorem image_at {α : Type} : ∀ (t : Fin grid1.N) (u v : α),
    Scalar.select (Scalar.cmpi .eq (BitVec.ofNat 32 (grid1.coords t 0).val) 0#32) u v = if t.val / 8 = 0 then u else v := by
  have h : ∀ t : Fin grid1.N, Scalar.cmpi .eq (BitVec.ofNat 32 (grid1.coords t 0).val) 0#32 = if t.val / 8 = 0 then 1#1 else 0#1 := by decide
  intro t u v
  rw [h]
  split <;> rfl

variable {m} {x : SX.Idx → EReal} (hx : Agrees m x) (hr : ∀ i, ∃ r : ℝ, x i = (r : EReal))
include hx

theorem mean_at (c : Dev nD) (t : Fin cfg1.N) (k : Fin 128) :
    Scalar.select (Scalar.cmpi .eq (BitVec.ofNat 32 (grid1.coords t 0).val) 0#32)
      (rowOf r0 (sblk m c t) (ix2 0 k)) (rowOf r1 (sblk m c t) (ix2 0 k)) = mu x ⟨t.val / 8, by have := lt1 t; omega⟩ k := by
  have h := lt1 t
  have e0 : rowOf r0 (sblk m c t) (ix2 0 k) = stat m c (ix2 0 k) := (rowOf_at 0 _ _ k).trans (sblk_at m c t 0 k)
  have e1 : rowOf r1 (sblk m c t) (ix2 0 k) = stat m c (ix2 1 k) := (rowOf_at 1 _ _ k).trans (sblk_at m c t 1 k)
  rw [image_at, e0, e1]
  split
  · next e => exact (stat_mu hx c 0 k).trans (congrArg (fun b => mu x b k) (Fin.ext e.symm))
  · next e => exact (stat_mu hx c 1 k).trans (congrArg (fun b => mu x b k) (Fin.ext (show 1 = t.val / 8 by omega)))

theorem root_at (c : Dev nD) (t : Fin cfg1.N) (k : Fin 128) :
    Scalar.select (Scalar.cmpi .eq (BitVec.ofNat 32 (grid1.coords t 0).val) 0#32)
      (rowOf r2 (sblk m c t) (ix2 0 k)) (rowOf r3 (sblk m c t) (ix2 0 k)) = rho x ⟨t.val / 8, by have := lt1 t; omega⟩ k := by
  have h := lt1 t
  have e0 : rowOf r2 (sblk m c t) (ix2 0 k) = stat m c (ix2 2 k) := (rowOf_at 2 _ _ k).trans (sblk_at m c t 2 k)
  have e1 : rowOf r3 (sblk m c t) (ix2 0 k) = stat m c (ix2 3 k) := (rowOf_at 3 _ _ k).trans (sblk_at m c t 3 k)
  rw [image_at, e0, e1]
  split
  · next e => exact (stat_rho hx c 0 k).trans (congrArg (fun b => rho x b k) (Fin.ext e.symm))
  · next e => exact (stat_rho hx c 1 k).trans (congrArg (fun b => rho x b k) (Fin.ext (show 1 = t.val / 8 by omega)))

include hr

/-- What a point stores is the reference's result at that place. -/
theorem appOut_at (W : FVec Ideal S128x256 .f32) (hW : ∀ c : Dev nD, m ((c : Thread nD τ).loc main_arg1) = W) (c : Dev nD) (t : Fin cfg1.N)
    (h : Fin 32) (w : Fin 256) (o : Fin 256) :
    appOut (grid1.coords t) (ablk m c t) (sblk m c t) (pblk m c t) (ix4 0 h w o)
      = refOut x W (ix4 ⟨t.val / 8, by have := lt1 t; omega⟩
          ⟨256 * c.val + (32 * (t.val % 8) + h.val), by have : c.val < 4 := c.isLt; omega⟩ w o) := by
  choose f hf using hr
  unfold appOut
  rw [apply_at, refOut_at]
  refine Finset.sum_congr rfl fun k _ => ?_
  rw [mean_at hx, root_at hx, ablk_at, hx, pblk_at, hW, swish_eq x f hf]

/-- The second call leaves each device its block of the reference's result. -/
theorem result_eq (W : FVec Ideal S128x256 .f32) (hW : ∀ c : Dev nD, m ((c : Thread nD τ).loc main_arg1) = W) (c : Dev nD) :
    (dat1 m c).arrAt 3 cfg1.N = Layout.block ⟨4, ![2, 256, 256, 256]⟩ ⟨4, ![2, 1024, 256, 256]⟩ 1 4 c (refOut x W) := by
  refine (dat1 m c).arrAt_eq_of_cover 3 _ (fun t _ => ?_) (fun i => ?_)
  · funext y
    obtain ⟨h, w, o, rfl⟩ : ∃ (h : Fin 32) (w : Fin 256) (o : Fin 256), y = (ix4 0 h w o : S1x32x256x256.Idx) :=
      have key : ∀ y : S1x32x256x256.Idx, y = ix4 0 (y 1) (y 2) (y 3) := fun y =>
        (eq_ix4 y).trans (congrArg (fun z : Fin 1 => (ix4 z (y 1) (y 2) (y 3) : S1x32x256x256.Idx)) (Subsingleton.elim (α := Fin 1) (y 0) 0))
      ⟨y 1, y 2, y 3, key y⟩
    refine (appOut_at hx hr W hW c t h w o).trans ?_
    refine Eq.trans ?_ (congrArg (Layout.block ⟨4, ![2, 256, 256, 256]⟩ ⟨4, ![2, 1024, 256, 256]⟩ 1 4 c (refOut x W)) (emb1_3 t h w o)).symm
    rw [Layout.block_apply]
    refine congrArg (refOut x W) ?_
    funext a
    apply Fin.ext
    rw [Layout.Tiles.idx_val]
    fin_cases a
    · rfl
    · show 256 * c.val + (32 * (t.val % 8) + h.val) = c.val * 256 + (32 * (t.val % 8) + h.val)
      omega
    · rfl
    · rfl
  · obtain ⟨b, r, w, o, rfl⟩ : ∃ (b : Fin 2) (r : Fin 256) (w : Fin 256) (o : Fin 256), i = (ix4 b r w o : S2x256x256x256.Idx) :=
      ⟨i 0, i 1, i 2, i 3, eq_ix4 i⟩
    have ht : 8 * b.val + r.val / 32 < cfg1.N := by
      show 8 * b.val + r.val / 32 < 16
      omega
    refine ⟨⟨8 * b.val + r.val / 32, ht⟩, flush1_3 _, ?_⟩
    have h := View.emb_mem_set ((cfg1.win 3).blk ⟨8 * b.val + r.val / 32, ht⟩).view (ix4 0 ⟨r.val % 32, by omega⟩ w o : S1x32x256x256.Idx)
    rw [emb1_3] at h
    refine (congrArg (· ∈ ((cfg1.win 3).blk ⟨8 * b.val + r.val / 32, ht⟩).view.set) ?_).mp h
    funext a
    apply Fin.ext
    fin_cases a
    · show (8 * b.val + r.val / 32) / 8 = b.val
      omega
    · show 32 * ((8 * b.val + r.val / 32) % 8) + r.val % 32 = r.val
      omega
    · rfl
    · rfl

omit hx hr

/-- The hypotheses of the claim, read: the devices' operands are the parts of one array, and it is finite. -/
theorem agrees_of_block (X : SX.Idx → EReal)
    (h : ∀ c : Dev nD, m ((c.tc : Thread nD τ).loc main_arg0) = Layout.block ⟨4, ![2, 256, 256, 128]⟩ ⟨4, ![2, 1024, 256, 128]⟩ 1 4 c X) :
    Agrees m X := by
  intro c b r w k
  show m ((c.tc : Thread nD τ).loc main_arg0) (ix4 b r w k) = _
  rw [h c, Layout.block_apply]
  refine congrArg X ?_
  funext a
  apply Fin.ext
  rw [Layout.Tiles.idx_val]
  fin_cases a
  · rfl
  · show c.val * 256 + r.val = 256 * c.val + r.val
    omega
  · rfl
  · rfl

theorem real_of_agrees (X : SX.Idx → EReal) (hX : Agrees m X)
    (hp : ∀ c : Dev nD, Cert.Pre_finite_KernelIdeal.fn (F := Ideal) (m ((c.tc : Thread nD τ).loc main_arg0))
      (m ((c.tc : Thread nD τ).loc main_arg1)) = fun _ => 1#1) (i : SX.Idx) : ∃ r : ℝ, X i = (r : EReal) := by
  obtain ⟨b, r, w, k, rfl⟩ : ∃ (b : Fin 2) (r : Fin 1024) (w : Fin 256) (k : Fin 128), i = (ix4 b r w k : SX.Idx) :=
    ⟨i 0, i 1, i 2, i 3, eq_ix4 i⟩
  have hc : r.val / 256 < nD := by
    show r.val / 256 < 4
    omega
  have h := hX ⟨r.val / 256, hc⟩ b ⟨r.val % 256, by omega⟩ w k
  have he : (⟨256 * (r.val / 256) + r.val % 256, by omega⟩ : Fin 1024) = r := Fin.ext (by show 256 * (r.val / 256) + r.val % 256 = r.val; omega)
  obtain ⟨q, hq⟩ := real_of_pre _ _ (hp ⟨r.val / 256, hc⟩) (ix4 b ⟨r.val % 256, by omega⟩ w k)
  exact ⟨q, (congrArg (fun z => X (ix4 b z w k)) he).symm.trans (h.symm.trans hq)⟩

end Cert.KernelIdeal.Stats
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Run
public import proofs.«01_k».proof.Proof.Ideal.Value
public import proofs.«01_k».proof.Proof.Bits.Run
public import proofs.«01_k».proof.Proof.Gen.Pre_finite_KernelIdeal
public import proofs.«01_k».proof.Proof.Gen.Pre_finite_ReferenceIdeal
public import Idealize.ShloMosaic.Adequacy
public import Idealize.ShloMosaic.Init

@[expose] public section

noncomputable section

namespace Cert.Proof

open Idealize.ShloMosaic Idealize.SL.Sem Cert.Kernel

/-- The kernel's frame at the chip's own floats: the run of `Bits.Run`, read at the two arguments and the counters. -/
theorem frame_kernel : Cert.quiescent_Kernel (hKernel := Cert.Kernel.Gen.facts) := fun m g _ =>
  (θ_run Cert.Kernel.defs _ _).mono (fun _ h => ⟨fun c => ⟨(h.1 c).2.1, (h.1 c).2.2⟩, h.2⟩)
    (Cert.Kernel.Stats.run_main (F := Bits) m g)

/-- The same frame over the extended reals, from the run of `Ideal.Run`. -/
theorem frame_ideal : Cert.quiescent_KernelIdeal (hKernelIdeal := Cert.KernelIdeal.Gen.facts) := fun m g _ =>
  (θ_run Cert.KernelIdeal.defs _ _).mono (fun _ h => ⟨fun c => ⟨(h.1 c).2.1, (h.1 c).2.2⟩, h.2⟩)
    (Cert.KernelIdeal.Stats.run_main (F := Ideal) m g)

/-- The reference's frame: its run leaves both arguments, and it has no semaphore at all. -/
theorem frame_ref : Cert.quiescent_ReferenceIdeal (hReferenceIdeal := Cert.ReferenceIdeal.Gen.facts) := fun m g _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m g)

/-- Over the extended reals, from finite operands, the kernel's result on each device is that device's block of the reference's result. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) :=
  fun m g m' g' hp hin => by
    have hx := Cert.KernelIdeal.Stats.agrees_of_block (m := m) _ fun c => (hin c).1
    have hr := Cert.KernelIdeal.Stats.real_of_agrees (m := m) _ hx hp
    refine ⟨Cert.ReferenceIdeal.Value.res_main_v20 m' 0, ?_, ?_⟩
    · refine (θ_run Cert.KernelIdeal.defs _ _).mono (fun r h c => ⟨(h.1 c).1.trans ?_, (h.1 c).2.1, (h.1 c).2.2⟩)
        (Cert.KernelIdeal.Stats.run_main (F := Ideal) m g)
      exact Cert.KernelIdeal.Stats.result_eq hx hr _ (fun c => (hin c).2) c
    · exact (θ_run Cert.ReferenceIdeal.defs _ _).mono (fun _ h => h 0) (Cert.ReferenceIdeal.Value.run (F := Ideal) m' g')

/-- All the claims. -/
theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_kernel, frame_ideal, fun m g _ => frame_ideal m g trivial, frame_ref, fun m g _ => frame_ref m g trivial, trivial, value⟩

end Cert.Proof

end
